-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def Pre_Wdec (m : (ℓ : Loc Cert.Wdec.nD Cert.Wdec.τ Cert.Wdec.sig) → Buf (Elt Bits) ℓ) : Prop :=
  True

def Pre_WdecIdeal (m : (ℓ : Loc Cert.WdecIdeal.nD Cert.WdecIdeal.τ Cert.WdecIdeal.sig) → Buf (Elt Ideal) ℓ) : Prop :=
  True

def Pre_WdecReferenceIdeal (m : (ℓ : Loc Cert.WdecReferenceIdeal.nD Cert.WdecReferenceIdeal.τ Cert.WdecReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0)
      ∧ r.2.mem ((c.tc : Thread Cert.Amax.nD Cert.Amax.τ).loc Cert.Amax.main_arg1) = m ((c.tc : Thread Cert.Amax.nD Cert.Amax.τ).loc Cert.Amax.main_arg1))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
      ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
      ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1))
      ∧ r.2.sem = fun _ => 0)

def quiescent_Wdec [hWdec : Cert.Wdec.Facts] : Prop :=
  ∀ (m : (ℓ : Loc Cert.Wdec.nD Cert.Wdec.τ Cert.Wdec.sig) → Buf (Elt Bits) ℓ) (g : Dev Cert.Wdec.nD → PrngReg), Pre_Wdec m →
    θ_run (Cert.Wdec.defs (F := Bits)) (onTc (τ := Cert.Wdec.τ) (Cert.Wdec.main (F := Bits))) ⟨m, fun _ => 0, g⟩ (fun r => (∀ c : Dev Cert.Wdec.nD,
      r.2.mem ((c.tc : Thread Cert.Wdec.nD Cert.Wdec.τ).loc Cert.Wdec.main_arg0) = m ((c.tc : Thread Cert.Wdec.nD Cert.Wdec.τ).loc Cert.Wdec.main_arg0)
      ∧ r.2.mem ((c.tc : Thread Cert.Wdec.nD Cert.Wdec.τ).loc Cert.Wdec.main_arg1) = m ((c.tc : Thread Cert.Wdec.nD Cert.Wdec.τ).loc Cert.Wdec.main_arg1))
      ∧ r.2.sem = fun _ => 0)

def quiescent_WdecIdeal [hWdecIdeal : Cert.WdecIdeal.Facts] : Prop :=
  ∀ (m : (ℓ : Loc Cert.WdecIdeal.nD Cert.WdecIdeal.τ Cert.WdecIdeal.sig) → Buf (Elt Ideal) ℓ) (g : Dev Cert.WdecIdeal.nD → PrngReg), Pre_WdecIdeal m →
    θ_run (Cert.WdecIdeal.defs (F := Ideal)) (onTc (τ := Cert.WdecIdeal.τ) (Cert.WdecIdeal.main (F := Ideal))) ⟨m, fun _ => 0, g⟩ (fun r => (∀ c : Dev Cert.WdecIdeal.nD,
      r.2.mem ((c.tc : Thread Cert.WdecIdeal.nD Cert.WdecIdeal.τ).loc Cert.WdecIdeal.main_arg0) = m ((c.tc : Thread Cert.WdecIdeal.nD Cert.WdecIdeal.τ).loc Cert.WdecIdeal.main_arg0)
      ∧ r.2.mem ((c.tc : Thread Cert.WdecIdeal.nD Cert.WdecIdeal.τ).loc Cert.WdecIdeal.main_arg1) = m ((c.tc : Thread Cert.WdecIdeal.nD Cert.WdecIdeal.τ).loc Cert.WdecIdeal.main_arg1))
      ∧ r.2.sem = fun _ => 0)

def quiescent_WdecReferenceIdeal [hWdecReferenceIdeal : Cert.WdecReferenceIdeal.Facts] : Prop :=
  ∀ (m : (ℓ : Loc Cert.WdecReferenceIdeal.nD Cert.WdecReferenceIdeal.τ Cert.WdecReferenceIdeal.sig) → Buf (Elt Ideal) ℓ) (g : Dev Cert.WdecReferenceIdeal.nD → PrngReg), Pre_WdecReferenceIdeal m →
    θ_run (Cert.WdecReferenceIdeal.defs (F := Ideal)) (onTc (τ := Cert.WdecReferenceIdeal.τ) (Cert.WdecReferenceIdeal.main (F := Ideal))) ⟨m, fun _ => 0, g⟩ (fun r => (∀ c : Dev Cert.WdecReferenceIdeal.nD,
      r.2.mem ((c.tc : Thread Cert.WdecReferenceIdeal.nD Cert.WdecReferenceIdeal.τ).loc Cert.WdecReferenceIdeal.main_arg0) = m ((c.tc : Thread Cert.WdecReferenceIdeal.nD Cert.WdecReferenceIdeal.τ).loc Cert.WdecReferenceIdeal.main_arg0)
      ∧ r.2.mem ((c.tc : Thread Cert.WdecReferenceIdeal.nD Cert.WdecReferenceIdeal.τ).loc Cert.WdecReferenceIdeal.main_arg1) = m ((c.tc : Thread Cert.WdecReferenceIdeal.nD Cert.WdecReferenceIdeal.τ).loc Cert.WdecReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)
      ∧ m' ((c.tc : Thread Cert.AmaxReferenceIdeal.nD Cert.AmaxReferenceIdeal.τ).loc Cert.AmaxReferenceIdeal.main_arg1) = m ((c.tc : Thread Cert.AmaxIdeal.nD Cert.AmaxIdeal.τ).loc Cert.AmaxIdeal.main_arg1)) →
    ∃ (v0 : (c : Dev Cert.AmaxIdeal.nD) → Buf (Elt Ideal) ((c.tc : Thread Cert.AmaxIdeal.nD Cert.AmaxIdeal.τ).loc Cert.AmaxIdeal.main_v1_0)) (v1 : (c : Dev Cert.AmaxIdeal.nD) → Buf (Elt Ideal) ((c.tc : Thread Cert.AmaxIdeal.nD Cert.AmaxIdeal.τ).loc Cert.AmaxIdeal.main_v1_1)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v1_0) = v0 c
          ∧ r.2.mem ((c.tc : Thread Cert.AmaxIdeal.nD Cert.AmaxIdeal.τ).loc Cert.AmaxIdeal.main_v1_1) = v1 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0)
          ∧ r.2.mem ((c.tc : Thread Cert.AmaxIdeal.nD Cert.AmaxIdeal.τ).loc Cert.AmaxIdeal.main_arg1) = m ((c.tc : Thread Cert.AmaxIdeal.nD Cert.AmaxIdeal.τ).loc Cert.AmaxIdeal.main_arg1))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v6) = v0 c
          ∧ r.2.mem ((c.tc : Thread Cert.AmaxReferenceIdeal.nD Cert.AmaxReferenceIdeal.τ).loc Cert.AmaxReferenceIdeal.main_v8) = v1 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m' ((c.tc : Thread Cert.AmaxReferenceIdeal.nD Cert.AmaxReferenceIdeal.τ).loc Cert.AmaxReferenceIdeal.main_arg1))

def preserves_Wdec_WdecIdeal : Prop :=
  True

def algebraic_WdecIdeal_WdecReferenceIdeal [hWdecIdeal : Cert.WdecIdeal.Facts] [hWdecReferenceIdeal : Cert.WdecReferenceIdeal.Facts] : Prop :=
  ∀ (m : (ℓ : Loc Cert.WdecIdeal.nD Cert.WdecIdeal.τ Cert.WdecIdeal.sig) → Buf (Elt Ideal) ℓ) (g : Dev Cert.WdecIdeal.nD → PrngReg)
    (m' : (ℓ : Loc Cert.WdecReferenceIdeal.nD Cert.WdecReferenceIdeal.τ Cert.WdecReferenceIdeal.sig) → Buf (Elt Ideal) ℓ) (g' : Dev Cert.WdecReferenceIdeal.nD → PrngReg), Pre_WdecIdeal m →
    (∀ c : Dev Cert.WdecIdeal.nD,
      m' ((c.tc : Thread Cert.WdecReferenceIdeal.nD Cert.WdecReferenceIdeal.τ).loc Cert.WdecReferenceIdeal.main_arg0) = m ((c.tc : Thread Cert.WdecIdeal.nD Cert.WdecIdeal.τ).loc Cert.WdecIdeal.main_arg0)
      ∧ m' ((c.tc : Thread Cert.WdecReferenceIdeal.nD Cert.WdecReferenceIdeal.τ).loc Cert.WdecReferenceIdeal.main_arg1) = m ((c.tc : Thread Cert.WdecIdeal.nD Cert.WdecIdeal.τ).loc Cert.WdecIdeal.main_arg1)) →
    ∃ (v0 : (c : Dev Cert.WdecIdeal.nD) → Buf (Elt Ideal) ((c.tc : Thread Cert.WdecIdeal.nD Cert.WdecIdeal.τ).loc Cert.WdecIdeal.main_v0)),
      θ_run (Cert.WdecIdeal.defs (F := Ideal)) (onTc (τ := Cert.WdecIdeal.τ) (Cert.WdecIdeal.main (F := Ideal))) ⟨m, fun _ => 0, g⟩ (fun r => ∀ c : Dev Cert.WdecIdeal.nD,
          r.2.mem ((c.tc : Thread Cert.WdecIdeal.nD Cert.WdecIdeal.τ).loc Cert.WdecIdeal.main_v0) = v0 c
          ∧ r.2.mem ((c.tc : Thread Cert.WdecIdeal.nD Cert.WdecIdeal.τ).loc Cert.WdecIdeal.main_arg0) = m ((c.tc : Thread Cert.WdecIdeal.nD Cert.WdecIdeal.τ).loc Cert.WdecIdeal.main_arg0)
          ∧ r.2.mem ((c.tc : Thread Cert.WdecIdeal.nD Cert.WdecIdeal.τ).loc Cert.WdecIdeal.main_arg1) = m ((c.tc : Thread Cert.WdecIdeal.nD Cert.WdecIdeal.τ).loc Cert.WdecIdeal.main_arg1))
      ∧ θ_run (Cert.WdecReferenceIdeal.defs (F := Ideal)) (onTc (τ := Cert.WdecReferenceIdeal.τ) (Cert.WdecReferenceIdeal.main (F := Ideal))) ⟨m', fun _ => 0, g'⟩ (fun r => ∀ c : Dev Cert.WdecReferenceIdeal.nD,
          r.2.mem ((c.tc : Thread Cert.WdecReferenceIdeal.nD Cert.WdecReferenceIdeal.τ).loc Cert.WdecReferenceIdeal.main_v47) = v0 c
          ∧ r.2.mem ((c.tc : Thread Cert.WdecReferenceIdeal.nD Cert.WdecReferenceIdeal.τ).loc Cert.WdecReferenceIdeal.main_arg0) = m' ((c.tc : Thread Cert.WdecReferenceIdeal.nD Cert.WdecReferenceIdeal.τ).loc Cert.WdecReferenceIdeal.main_arg0)
          ∧ r.2.mem ((c.tc : Thread Cert.WdecReferenceIdeal.nD Cert.WdecReferenceIdeal.τ).loc Cert.WdecReferenceIdeal.main_arg1) = m' ((c.tc : Thread Cert.WdecReferenceIdeal.nD Cert.WdecReferenceIdeal.τ).loc Cert.WdecReferenceIdeal.main_arg1))

def Claim : Prop :=
  ∃ (hKernel : Cert.Kernel.Facts) (hKernelIdeal : Cert.KernelIdeal.Facts) (hReferenceIdeal : Cert.ReferenceIdeal.Facts) (hAmax : Cert.Amax.Facts) (hAmaxIdeal : Cert.AmaxIdeal.Facts) (hAmaxReferenceIdeal : Cert.AmaxReferenceIdeal.Facts) (hWdec : Cert.Wdec.Facts) (hWdecIdeal : Cert.WdecIdeal.Facts) (hWdecReferenceIdeal : Cert.WdecReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Amax (hAmax := hAmax)
    ∧ quiescent_AmaxIdeal (hAmaxIdeal := hAmaxIdeal)
    ∧ quiescent_AmaxReferenceIdeal (hAmaxReferenceIdeal := hAmaxReferenceIdeal)
    ∧ quiescent_Wdec (hWdec := hWdec)
    ∧ quiescent_WdecIdeal (hWdecIdeal := hWdecIdeal)
    ∧ quiescent_WdecReferenceIdeal (hWdecReferenceIdeal := hWdecReferenceIdeal)
    ∧ preserves_Kernel_KernelIdeal
    ∧ algebraic_KernelIdeal_ReferenceIdeal (hKernelIdeal := hKernelIdeal) (hReferenceIdeal := hReferenceIdeal)
    ∧ preserves_Amax_AmaxIdeal
    ∧ algebraic_AmaxIdeal_AmaxReferenceIdeal (hAmaxIdeal := hAmaxIdeal) (hAmaxReferenceIdeal := hAmaxReferenceIdeal)
    ∧ preserves_Wdec_WdecIdeal
    ∧ algebraic_WdecIdeal_WdecReferenceIdeal (hWdecIdeal := hWdecIdeal) (hWdecReferenceIdeal := hWdecReferenceIdeal)
-- ==== Kernel.lean ====
abbrev S12288x1024 : Shape := ⟨2, ![12288, 1024]⟩
abbrev S12288x16384 : Shape := ⟨2, ![12288, 16384]⟩
abbrev S1024x16384 : Shape := ⟨2, ![1024, 16384]⟩
abbrev S_ : Shape := ⟨0, ![]⟩
abbrev S8x128 : Shape := ⟨2, ![8, 128]⟩
abbrev S12288x512 : Shape := ⟨2, ![12288, 512]⟩
abbrev S12288x64 : Shape := ⟨2, ![12288, 64]⟩
abbrev S256x1024 : Shape := ⟨2, ![256, 1024]⟩
abbrev S256x4096 : Shape := ⟨2, ![256, 4096]⟩
abbrev S256x512 : Shape := ⟨2, ![256, 512]⟩
abbrev S256x64 : Shape := ⟨2, ![256, 64]⟩
abbrev S256x128 : Shape := ⟨2, ![256, 128]⟩
abbrev S16x128 : Shape := ⟨2, ![16, 128]⟩
abbrev S16x128x1 : Shape := ⟨3, ![16, 128, 1]⟩
abbrev S8x128x1 : Shape := ⟨3, ![8, 128, 1]⟩
abbrev S32x128 : Shape := ⟨2, ![32, 128]⟩
abbrev S32x64 : Shape := ⟨2, ![32, 64]⟩
abbrev S1024x4096 : Shape := ⟨2, ![1024, 4096]⟩
abbrev S1x1 : Shape := ⟨2, ![1, 1]⟩

abbrev nBuf : Space → Nat
  | .hbm => 13
  | .vmem => 21
  | .smem => 0
  | _ => 0

abbrev bufTy : (tb : Table) → Fin (tcTables nBuf tb) → BufTy
  | .hbm, ⟨0, _⟩ => ⟨S12288x1024, .bf16⟩
  | .hbm, ⟨1, _⟩ => ⟨S12288x16384, .bf16⟩
  | .hbm, ⟨2, _⟩ => ⟨S12288x1024, .i32⟩
  | .hbm, ⟨3, _⟩ => ⟨S1024x16384, .bf16⟩
  | .hbm, ⟨4, _⟩ => ⟨S_, .f32⟩
  | .hbm, ⟨5, _⟩ => ⟨S_, .f32⟩
  | .hbm, ⟨6, _⟩ => ⟨S8x128, .f32⟩
  | .hbm, ⟨7, _⟩ => ⟨S8x128, .f32⟩
  | .hbm, ⟨8, _⟩ => ⟨S12288x16384, .bf16⟩
  | .hbm, ⟨9, _⟩ => ⟨S12288x512, .i8⟩
  | .hbm, ⟨10, _⟩ => ⟨S12288x64, .fp8e4m3⟩
  | .hbm, ⟨11, _⟩ => ⟨S12288x16384, .fp8e4m3⟩
  | .hbm, ⟨12, _⟩ => ⟨S12288x512, .f32⟩
  | .local _ .vmem, ⟨0, _⟩ => ⟨S8x128, .f32⟩
  | .local _ .vmem, ⟨1, _⟩ => ⟨S8x128, .f32⟩
  | .local _ .vmem, ⟨2, _⟩ => ⟨S256x1024, .bf16⟩
  | .local _ .vmem, ⟨3, _⟩ => ⟨S256x1024, .bf16⟩
  | .local _ .vmem, ⟨4, _⟩ => ⟨S256x1024, .i32⟩
  | .local _ .vmem, ⟨5, _⟩ => ⟨S256x1024, .i32⟩
  | .local _ .vmem, ⟨6, _⟩ => ⟨S256x4096, .bf16⟩
  | .local _ .vmem, ⟨7, _⟩ => ⟨S256x4096, .bf16⟩
  | .local _ .vmem, ⟨8, _⟩ => ⟨S1024x16384, .bf16⟩
  | .local _ .vmem, ⟨9, _⟩ => ⟨S256x4096, .bf16⟩
  | .local _ .vmem, ⟨10, _⟩ => ⟨S256x4096, .bf16⟩
  | .local _ .vmem, ⟨11, _⟩ => ⟨S256x512, .i8⟩
  | .local _ .vmem, ⟨12, _⟩ => ⟨S256x512, .i8⟩
  | .local _ .vmem, ⟨13, _⟩ => ⟨S256x64, .fp8e4m3⟩
  | .local _ .vmem, ⟨14, _⟩ => ⟨S256x64, .fp8e4m3⟩
  | .local _ .vmem, ⟨15, _⟩ => ⟨S256x4096, .fp8e4m3⟩
  | .local _ .vmem, ⟨16, _⟩ => ⟨S256x4096, .fp8e4m3⟩
  | .local _ .vmem, ⟨17, _⟩ => ⟨S256x128, .f32⟩
  | .local _ .vmem, ⟨18, _⟩ => ⟨S256x128, .f32⟩
  | .local _ .vmem, ⟨19, _⟩ => ⟨S256x1024, .bf16⟩
  | .local _ .vmem, ⟨20, _⟩ => ⟨S256x4096, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![48, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32_12 : BitVec 32 := 8#32
  let v17 : BitVec 32 := Scalar.addi c0_i32_11 c8_i32_12
  let c1_i32_13 : BitVec 32 := 1#32
  ⟨c0_i32_11, v17, c1_i32_13⟩
def k0_mult1 (k0_t1 : Fin k0_t1_loop.trips) : BitVec 32 :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  v20
def k0_off1 (k0_t1 : Fin k0_t1_loop.trips) (c0_i32_17 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v23 : BitVec 32 := Scalar.addi v21 c0_i32_17
  let v24 : Index := Scalar.indexCast v23
  let c0_18 : Index := 0#32
  ![v24.toNat, 0]
def k0_off2 (k0_t1 : Fin k0_t1_loop.trips) (c0_i32_19 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v28 : BitVec 32 := Scalar.addi v21 c0_i32_19
  let v29 : Index := Scalar.indexCast v28
  let c128 : Index := 128#32
  ![v29.toNat, 128]
def k0_off3 (k0_t1 : Fin k0_t1_loop.trips) (c0_i32_20 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v33 : BitVec 32 := Scalar.addi v21 c0_i32_20
  let v34 : Index := Scalar.indexCast v33
  let c256 : Index := 256#32
  ![v34.toNat, 256]
def k0_off4 (k0_t1 : Fin k0_t1_loop.trips) (c0_i32_21 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v38 : BitVec 32 := Scalar.addi v21 c0_i32_21
  let v39 : Index := Scalar.indexCast v38
  let c384 : Index := 384#32
  ![v39.toNat, 384]
def k0_off5 (k0_t1 : Fin k0_t1_loop.trips) (c0_i32_22 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v43 : BitVec 32 := Scalar.addi v21 c0_i32_22
  let v44 : Index := Scalar.indexCast v43
  let c512 : Index := 512#32
  ![v44.toNat, 512]
def k0_off6 (k0_t1 : Fin k0_t1_loop.trips) (c0_i32_23 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v48 : BitVec 32 := Scalar.addi v21 c0_i32_23
  let v49 : Index := Scalar.indexCast v48
  let c640 : Index := 640#32
  ![v49.toNat, 640]
def k0_off7 (k0_t1 : Fin k0_t1_loop.trips) (c0_i32_24 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v53 : BitVec 32 := Scalar.addi v21 c0_i32_24
  let v54 : Index := Scalar.indexCast v53
  let c768 : Index := 768#32
  ![v54.toNat, 768]
def k0_off8 (k0_t1 : Fin k0_t1_loop.trips) (c0_i32_25 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v58 : BitVec 32 := Scalar.addi v21 c0_i32_25
  let v59 : Index := Scalar.indexCast v58
  let c896 : Index := 896#32
  ![v59.toNat, 896]
def k0_off9 (k0_t1 : Fin k0_t1_loop.trips) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v377 : Index := Scalar.indexCast v21
  let c0_104 : Index := 0#32
  ![v377.toNat, 0]
def k0_off10 (k0_t1 : Fin k0_t1_loop.trips) (c0_i32_107 : BitVec 32) (c0_i32_108 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v385 : BitVec 32 := Scalar.addi v21 c0_i32_107
  let v386 : BitVec 32 := Scalar.addi v385 c0_i32_108
  let v387 : Index := Scalar.indexCast v386
  let c0_109 : Index := 0#32
  ![v387.toNat, 0]
def k0_off11 (k0_t1 : Fin k0_t1_loop.trips) (c0_i32_225 : BitVec 32) (c0_i32_226 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v714 : BitVec 32 := Scalar.addi v21 c0_i32_225
  let v715 : BitVec 32 := Scalar.addi v714 c0_i32_226
  let v716 : Index := Scalar.indexCast v715
  let c128_227 : Index := 128#32
  ![v716.toNat, 128]
def k0_off12 (k0_t1 : Fin k0_t1_loop.trips) (c0_i32_343 : BitVec 32) (c0_i32_344 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v1043 : BitVec 32 := Scalar.addi v21 c0_i32_343
  let v1044 : BitVec 32 := Scalar.addi v1043 c0_i32_344
  let v1045 : Index := Scalar.indexCast v1044
  let c256_345 : Index := 256#32
  ![v1045.toNat, 256]
def k0_off13 (k0_t1 : Fin k0_t1_loop.trips) (c0_i32_460 : BitVec 32) (c0_i32_461 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v1372 : BitVec 32 := Scalar.addi v21 c0_i32_460
  let v1373 : BitVec 32 := Scalar.addi v1372 c0_i32_461
  let v1374 : Index := Scalar.indexCast v1373
  let c384_462 : Index := 384#32
  ![v1374.toNat, 384]
def k0_off14 (k0_t1 : Fin k0_t1_loop.trips) (c0_i32_578 : BitVec 32) (c0_i32_579 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v1701 : BitVec 32 := Scalar.addi v21 c0_i32_578
  let v1702 : BitVec 32 := Scalar.addi v1701 c0_i32_579
  let v1703 : Index := Scalar.indexCast v1702
  let c512_580 : Index := 512#32
  ![v1703.toNat, 512]
def k0_off15 (k0_t1 : Fin k0_t1_loop.trips) (c0_i32_695 : BitVec 32) (c0_i32_696 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v2030 : BitVec 32 := Scalar.addi v21 c0_i32_695
  let v2031 : BitVec 32 := Scalar.addi v2030 c0_i32_696
  let v2032 : Index := Scalar.indexCast v2031
  let c640_697 : Index := 640#32
  ![v2032.toNat, 640]
def k0_off16 (k0_t1 : Fin k0_t1_loop.trips) (c0_i32_812 : BitVec 32) (c0_i32_813 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v2359 : BitVec 32 := Scalar.addi v21 c0_i32_812
  let v2360 : BitVec 32 := Scalar.addi v2359 c0_i32_813
  let v2361 : Index := Scalar.indexCast v2360
  let c768_814 : Index := 768#32
  ![v2361.toNat, 768]
def k0_off17 (k0_t1 : Fin k0_t1_loop.trips) (c0_i32_929 : BitVec 32) (c0_i32_930 : BitVec 32) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v2688 : BitVec 32 := Scalar.addi v21 c0_i32_929
  let v2689 : BitVec 32 := Scalar.addi v2688 c0_i32_930
  let v2690 : Index := Scalar.indexCast v2689
  let c896_931 : Index := 896#32
  ![v2690.toNat, 896]
def k0_off18 (k0_t1 : Fin k0_t1_loop.trips) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v3061 : Index := Scalar.indexCast v21
  let c0_1057 : Index := 0#32
  ![v3061.toNat, 0]
def k0_off19 (k0_t1 : Fin k0_t1_loop.trips) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v3105 : Index := Scalar.indexCast v21
  let c128_1069 : Index := 128#32
  ![v3105.toNat, 128]
def k0_off20 (k0_t1 : Fin k0_t1_loop.trips) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v3149 : Index := Scalar.indexCast v21
  let c256_1081 : Index := 256#32
  ![v3149.toNat, 256]
def k0_off21 (k0_t1 : Fin k0_t1_loop.trips) : Fin 2 → Nat :=
  let c0_i32_16 : BitVec 32 := 0#32
  let c0_i32_11 : BitVec 32 := 0#32
  let c1_i32_13 : BitVec 32 := 1#32
  let arg15 : BitVec 32 := Scf.iv c0_i32_11 c1_i32_13 k0_t1
  let c1_i32_15 : BitVec 32 := 1#32
  let v18 : BitVec 32 := Scalar.muli arg15 c1_i32_15
  let v19 : BitVec 32 := Scalar.addi c0_i32_16 v18
  let c32_i32 : BitVec 32 := 32#32
  let v20 : BitVec 32 := Scalar.muli v19 c32_i32
  let v21 : BitVec 32 := v20
  let v3193 : Index := Scalar.indexCast v21
  let c384_1093 : Index := 384#32
  ![v3193.toNat, 384]
def k0_mult2 (i : grid0.Coords) : BitVec 32 :=
  let arg1 : BitVec 32 := BitVec.ofNat 32 (i 1).val
  let c4096_i32 : BitVec 32 := 4096#32
  let v4 : BitVec 32 := Scalar.muli arg1 c4096_i32
  v4
def k0_off22 (i : grid0.Coords) : Fin 2 → Nat :=
  let c0_2 : Index := 0#32
  let arg1 : BitVec 32 := BitVec.ofNat 32 (i 1).val
  let c4096_i32 : BitVec 32 := 4096#32
  let v4 : BitVec 32 := Scalar.muli arg1 c4096_i32
  let v5 : BitVec 32 := v4
  let v6 : Index := Scalar.indexCast v5
  ![0, v6.toNat]
@[reducible] def k0_t2_loop : Scf.Loop 32 :=
  let c0_i32_7 : BitVec 32 := 0#32
  let c8_i32 : BitVec 32 := 8#32
  let v14 : BitVec 32 := Scalar.addi c0_i32_7 c8_i32
  let c1_i32 : BitVec 32 := 1#32
  ⟨c0_i32_7, v14, c1_i32⟩
def k0_mult3 (k0_t2 : Fin k0_t2_loop.trips) : BitVec 32 :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  v17
def k0_off23 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v21 : Index := Scalar.indexCast v20
  let c0_12 : Index := 0#32
  ![v21.toNat, 0]
def k0_off24 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v34 : Index := Scalar.indexCast v20
  let c128 : Index := 128#32
  ![v34.toNat, 128]
def k0_off25 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v47 : Index := Scalar.indexCast v20
  let c256 : Index := 256#32
  ![v47.toNat, 256]
def k0_off26 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v60 : Index := Scalar.indexCast v20
  let c384 : Index := 384#32
  ![v60.toNat, 384]
def k0_off27 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v73 : Index := Scalar.indexCast v20
  let c512 : Index := 512#32
  ![v73.toNat, 512]
def k0_off28 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v86 : Index := Scalar.indexCast v20
  let c640 : Index := 640#32
  ![v86.toNat, 640]
def k0_off29 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v99 : Index := Scalar.indexCast v20
  let c768 : Index := 768#32
  ![v99.toNat, 768]
def k0_off30 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v112 : Index := Scalar.indexCast v20
  let c896 : Index := 896#32
  ![v112.toNat, 896]
def k0_off31 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v125 : Index := Scalar.indexCast v20
  let c1024 : Index := 1024#32
  ![v125.toNat, 1024]
def k0_off32 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v138 : Index := Scalar.indexCast v20
  let c1152 : Index := 1152#32
  ![v138.toNat, 1152]
def k0_off33 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v151 : Index := Scalar.indexCast v20
  let c1280 : Index := 1280#32
  ![v151.toNat, 1280]
def k0_off34 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v164 : Index := Scalar.indexCast v20
  let c1408 : Index := 1408#32
  ![v164.toNat, 1408]
def k0_off35 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v177 : Index := Scalar.indexCast v20
  let c1536 : Index := 1536#32
  ![v177.toNat, 1536]
def k0_off36 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v190 : Index := Scalar.indexCast v20
  let c1664 : Index := 1664#32
  ![v190.toNat, 1664]
def k0_off37 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v203 : Index := Scalar.indexCast v20
  let c1792 : Index := 1792#32
  ![v203.toNat, 1792]
def k0_off38 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v216 : Index := Scalar.indexCast v20
  let c1920 : Index := 1920#32
  ![v216.toNat, 1920]
def k0_off39 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v229 : Index := Scalar.indexCast v20
  let c2048 : Index := 2048#32
  ![v229.toNat, 2048]
def k0_off40 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v242 : Index := Scalar.indexCast v20
  let c2176 : Index := 2176#32
  ![v242.toNat, 2176]
def k0_off41 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v255 : Index := Scalar.indexCast v20
  let c2304 : Index := 2304#32
  ![v255.toNat, 2304]
def k0_off42 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v268 : Index := Scalar.indexCast v20
  let c2432 : Index := 2432#32
  ![v268.toNat, 2432]
def k0_off43 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v281 : Index := Scalar.indexCast v20
  let c2560 : Index := 2560#32
  ![v281.toNat, 2560]
def k0_off44 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v294 : Index := Scalar.indexCast v20
  let c2688 : Index := 2688#32
  ![v294.toNat, 2688]
def k0_off45 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v307 : Index := Scalar.indexCast v20
  let c2816 : Index := 2816#32
  ![v307.toNat, 2816]
def k0_off46 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v320 : Index := Scalar.indexCast v20
  let c2944 : Index := 2944#32
  ![v320.toNat, 2944]
def k0_off47 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v333 : Index := Scalar.indexCast v20
  let c3072 : Index := 3072#32
  ![v333.toNat, 3072]
def k0_off48 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v346 : Index := Scalar.indexCast v20
  let c3200 : Index := 3200#32
  ![v346.toNat, 3200]
def k0_off49 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v359 : Index := Scalar.indexCast v20
  let c3328 : Index := 3328#32
  ![v359.toNat, 3328]
def k0_off50 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v372 : Index := Scalar.indexCast v20
  let c3456 : Index := 3456#32
  ![v372.toNat, 3456]
def k0_off51 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v385 : Index := Scalar.indexCast v20
  let c3584 : Index := 3584#32
  ![v385.toNat, 3584]
def k0_off52 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v398 : Index := Scalar.indexCast v20
  let c3712 : Index := 3712#32
  ![v398.toNat, 3712]
def k0_off53 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v411 : Index := Scalar.indexCast v20
  let c3840 : Index := 3840#32
  ![v411.toNat, 3840]
def k0_off54 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v424 : Index := Scalar.indexCast v20
  let c3968 : Index := 3968#32
  ![v424.toNat, 3968]
def k0_off55 (k0_t2 : Fin k0_t2_loop.trips) (c0_i32_11 : BitVec 32) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v20 : BitVec 32 := Scalar.addi v18 c0_i32_11
  let v908 : Index := Scalar.indexCast v20
  let c0_175 : Index := 0#32
  ![v908.toNat, 0]
def k0_off56 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v1847 : Index := Scalar.indexCast v18
  let c0_395 : Index := 0#32
  ![v1847.toNat, 0]
def k0_off57 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v1896 : Index := Scalar.indexCast v18
  let c128_410 : Index := 128#32
  ![v1896.toNat, 128]
def k0_off58 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v1945 : Index := Scalar.indexCast v18
  let c256_425 : Index := 256#32
  ![v1945.toNat, 256]
def k0_off59 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v1994 : Index := Scalar.indexCast v18
  let c384_440 : Index := 384#32
  ![v1994.toNat, 384]
def k0_off60 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2043 : Index := Scalar.indexCast v18
  let c512_455 : Index := 512#32
  ![v2043.toNat, 512]
def k0_off61 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2092 : Index := Scalar.indexCast v18
  let c640_470 : Index := 640#32
  ![v2092.toNat, 640]
def k0_off62 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2141 : Index := Scalar.indexCast v18
  let c768_484 : Index := 768#32
  ![v2141.toNat, 768]
def k0_off63 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2190 : Index := Scalar.indexCast v18
  let c896_498 : Index := 896#32
  ![v2190.toNat, 896]
def k0_off64 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2239 : Index := Scalar.indexCast v18
  let c1024_513 : Index := 1024#32
  ![v2239.toNat, 1024]
def k0_off65 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2288 : Index := Scalar.indexCast v18
  let c1152_527 : Index := 1152#32
  ![v2288.toNat, 1152]
def k0_off66 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2337 : Index := Scalar.indexCast v18
  let c1280_541 : Index := 1280#32
  ![v2337.toNat, 1280]
def k0_off67 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2386 : Index := Scalar.indexCast v18
  let c1408_555 : Index := 1408#32
  ![v2386.toNat, 1408]
def k0_off68 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2435 : Index := Scalar.indexCast v18
  let c1536_569 : Index := 1536#32
  ![v2435.toNat, 1536]
def k0_off69 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2484 : Index := Scalar.indexCast v18
  let c1664_583 : Index := 1664#32
  ![v2484.toNat, 1664]
def k0_off70 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2533 : Index := Scalar.indexCast v18
  let c1792_597 : Index := 1792#32
  ![v2533.toNat, 1792]
def k0_off71 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2582 : Index := Scalar.indexCast v18
  let c1920_611 : Index := 1920#32
  ![v2582.toNat, 1920]
def k0_off72 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2631 : Index := Scalar.indexCast v18
  let c2048_626 : Index := 2048#32
  ![v2631.toNat, 2048]
def k0_off73 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2680 : Index := Scalar.indexCast v18
  let c2176_640 : Index := 2176#32
  ![v2680.toNat, 2176]
def k0_off74 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2729 : Index := Scalar.indexCast v18
  let c2304_654 : Index := 2304#32
  ![v2729.toNat, 2304]
def k0_off75 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2778 : Index := Scalar.indexCast v18
  let c2432_668 : Index := 2432#32
  ![v2778.toNat, 2432]
def k0_off76 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2827 : Index := Scalar.indexCast v18
  let c2560_682 : Index := 2560#32
  ![v2827.toNat, 2560]
def k0_off77 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2876 : Index := Scalar.indexCast v18
  let c2688_696 : Index := 2688#32
  ![v2876.toNat, 2688]
def k0_off78 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2925 : Index := Scalar.indexCast v18
  let c2816_710 : Index := 2816#32
  ![v2925.toNat, 2816]
def k0_off79 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v2974 : Index := Scalar.indexCast v18
  let c2944_725 : Index := 2944#32
  ![v2974.toNat, 2944]
def k0_off80 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3023 : Index := Scalar.indexCast v18
  let c3072_739 : Index := 3072#32
  ![v3023.toNat, 3072]
def k0_off81 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3072 : Index := Scalar.indexCast v18
  let c3200_753 : Index := 3200#32
  ![v3072.toNat, 3200]
def k0_off82 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3121 : Index := Scalar.indexCast v18
  let c3328_767 : Index := 3328#32
  ![v3121.toNat, 3328]
def k0_off83 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3170 : Index := Scalar.indexCast v18
  let c3456_781 : Index := 3456#32
  ![v3170.toNat, 3456]
def k0_off84 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3219 : Index := Scalar.indexCast v18
  let c3584_795 : Index := 3584#32
  ![v3219.toNat, 3584]
def k0_off85 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3268 : Index := Scalar.indexCast v18
  let c3712_809 : Index := 3712#32
  ![v3268.toNat, 3712]
def k0_off86 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3317 : Index := Scalar.indexCast v18
  let c3840_823 : Index := 3840#32
  ![v3317.toNat, 3840]
def k0_off87 (k0_t2 : Fin k0_t2_loop.trips) : Fin 2 → Nat :=
  let c0_i32_10 : BitVec 32 := 0#32
  let c0_i32_7 : BitVec 32 := 0#32
  let c1_i32 : BitVec 32 := 1#32
  let arg15 : BitVec 32 := Scf.iv c0_i32_7 c1_i32 k0_t2
  let c1_i32_9 : BitVec 32 := 1#32
  let v15 : BitVec 32 := Scalar.muli arg15 c1_i32_9
  let v16 : BitVec 32 := Scalar.addi c0_i32_10 v15
  let c32_i32 : BitVec 32 := 32#32
  let v17 : BitVec 32 := Scalar.muli v16 c32_i32
  let v18 : BitVec 32 := v17
  let v3366 : Index := Scalar.indexCast v18
  let c3968_837 : Index := 3968#32
  ![v3366.toNat, 3968]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x64 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S12288x1024 : Shape := ⟨2, ![12288, 1024]⟩
abbrev S12288x16384 : Shape := ⟨2, ![12288, 16384]⟩
abbrev S1024x16384 : Shape := ⟨2, ![1024, 16384]⟩
abbrev S_ : Shape := ⟨0, ![]⟩
abbrev S12288x64x16 : Shape := ⟨3, ![12288, 64, 16]⟩
abbrev S1x1 : Shape := ⟨2, ![1, 1]⟩
abbrev S12288x64 : Shape := ⟨2, ![12288, 64]⟩
abbrev S12288x64x1 : Shape := ⟨3, ![12288, 64, 1]⟩
abbrev S1x1x1 : Shape := ⟨3, ![1, 1, 1]⟩
abbrev S12288x512x2 : Shape := ⟨3, ![12288, 512, 2]⟩
abbrev S12288x512x1 : Shape := ⟨3, ![12288, 512, 1]⟩
abbrev S12288x512 : Shape := ⟨2, ![12288, 512]⟩

abbrev nBuf : Space → Nat
  | .hbm => 29
  | .vmem => 6
  | .smem => 0
  | _ => 0

abbrev bufTy : (tb : Table) → Fin (tcTables nBuf tb) → BufTy
  | .hbm, ⟨0, _⟩ => ⟨S12288x1024, .bf16⟩
  | .hbm, ⟨1, _⟩ => ⟨S12288x16384, .bf16⟩
  | .hbm, ⟨2, _⟩ => ⟨S12288x1024, .i32⟩
  | .hbm, ⟨3, _⟩ => ⟨S1024x16384, .bf16⟩
  | .hbm, ⟨4, _⟩ => ⟨S_, .f32⟩
  | .hbm, ⟨5, _⟩ => ⟨S_, .f32⟩
  | .hbm, ⟨6, _⟩ => ⟨S12288x64x16, .bf16⟩
  | .hbm, ⟨7, _⟩ => ⟨S12288x64x16, .i32⟩
  | .hbm, ⟨8, _⟩ => ⟨S1x1, .f32⟩
  | .hbm, ⟨9, _⟩ => ⟨S12288x64x16, .bf16⟩
  | .hbm, ⟨10, _⟩ => ⟨S12288x64x16, .i32⟩
  | .hbm, ⟨11, _⟩ => ⟨S12288x64, .fp8e4m3⟩
  | .hbm, ⟨12, _⟩ => ⟨S12288x512x2, .i32⟩
  | .hbm, ⟨13, _⟩ => ⟨S12288x512x1, .i32⟩
  | .hbm, ⟨14, _⟩ => ⟨S12288x512, .i32⟩
  | .hbm, ⟨15, _⟩ => ⟨S12288x512x1, .i32⟩
  | .hbm, ⟨16, _⟩ => ⟨S12288x512, .i32⟩
  | .hbm, ⟨17, _⟩ => ⟨S_, .i32⟩
  | .hbm, ⟨18, _⟩ => ⟨S12288x512, .i32⟩
  | .hbm, ⟨19, _⟩ => ⟨S12288x512, .i32⟩
  | .hbm, ⟨20, _⟩ => ⟨S12288x512, .i32⟩
  | .hbm, ⟨21, _⟩ => ⟨S12288x512, .i8⟩
  | .hbm, ⟨22, _⟩ => ⟨S12288x1024, .bf16⟩
  | .hbm, ⟨23, _⟩ => ⟨S12288x16384, .f32⟩
  | .hbm, ⟨24, _⟩ => ⟨S12288x16384, .f32⟩
  | .hbm, ⟨25, _⟩ => ⟨S12288x16384, .f32⟩
  | .hbm, ⟨26, _⟩ => ⟨S12288x16384, .f32⟩
  | .hbm, ⟨27, _⟩ => ⟨S12288x16384, .f32⟩
  | .hbm, ⟨28, _⟩ => ⟨S12288x16384, .bf16⟩
  | .local _ .vmem, ⟨0, _⟩ => ⟨S12288x64x16, .bf16⟩
  | .local _ .vmem, ⟨1, _⟩ => ⟨S12288x64x16, .i32⟩
  | .local _ .vmem, ⟨2, _⟩ => ⟨S1x1, .f32⟩
  | .local _ .vmem, ⟨3, _⟩ => ⟨S12288x64x16, .bf16⟩
  | .local _ .vmem, ⟨4, _⟩ => ⟨S12288x64x16, .i32⟩
  | .local _ .vmem, ⟨5, _⟩ => ⟨S12288x64, .fp8e4m3⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x64x16 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x64x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x64x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Amax.lean ====
abbrev S12288x1024 : Shape := ⟨2, ![12288, 1024]⟩
abbrev S_ : Shape := ⟨0, ![]⟩
abbrev S1x1 : Shape := ⟨2, ![1, 1]⟩
abbrev S8x128 : Shape := ⟨2, ![8, 128]⟩
abbrev S1024x1024 : Shape := ⟨2, ![1024, 1024]⟩
abbrev S16x1024 : Shape := ⟨2, ![16, 1024]⟩
abbrev S64x16x1024 : Shape := ⟨3, ![64, 16, 1024]⟩
abbrev S1x16x1024 : Shape := ⟨3, ![1, 16, 1024]⟩
abbrev S1 : Shape := ⟨1, ![1]⟩
abbrev S1x1x1 : Shape := ⟨3, ![1, 1, 1]⟩

abbrev nBuf : Space → Nat
  | .hbm => 5
  | .vmem => 5
  | .smem => 1
  | _ => 0

abbrev bufTy : (tb : Table) → Fin (tcTables nBuf tb) → BufTy
  | .hbm, ⟨0, _⟩ => ⟨S12288x1024, .bf16⟩
  | .hbm, ⟨1, _⟩ => ⟨S_, .f32⟩
  | .hbm, ⟨2, _⟩ => ⟨S1x1, .f32⟩
  | .hbm, ⟨3, _⟩ => ⟨S8x128, .f32⟩
  | .hbm, ⟨4, _⟩ => ⟨S8x128, .f32⟩
  | .local _ .vmem, ⟨0, _⟩ => ⟨S1024x1024, .bf16⟩
  | .local _ .vmem, ⟨1, _⟩ => ⟨S1024x1024, .bf16⟩
  | .local _ .vmem, ⟨2, _⟩ => ⟨S8x128, .f32⟩
  | .local _ .vmem, ⟨3, _⟩ => ⟨S8x128, .f32⟩
  | .local _ .vmem, ⟨4, _⟩ => ⟨S16x1024, .bf16⟩
  | .local _ .smem, ⟨0, _⟩ => ⟨S1x1, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c11_i32 : BitVec 32 := 11#32
  let v12 : BitVec 1 := Scalar.cmpi .eq arg0 c11_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== AmaxReferenceIdeal.lean ====
abbrev S12288x1024 : Shape := ⟨2, ![12288, 1024]⟩
abbrev S_ : Shape := ⟨0, ![]⟩
abbrev S8x128 : Shape := ⟨2, ![8, 128]⟩

abbrev nBuf : Space → Nat
  | .hbm => 16
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S_, .f32⟩
  | .hbm, ⟨2, _⟩ => ⟨S12288x1024, .f32⟩
  | .hbm, ⟨3, _⟩ => ⟨S12288x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .i1⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x128, .f32⟩
  | .hbm, ⟨14, _⟩ => ⟨S_, .f32⟩
  | .hbm, ⟨15, _⟩ => ⟨S8x128, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Wdec.lean ====
abbrev S1024x8192 : Shape := ⟨2, ![1024, 8192]⟩
abbrev S64x1024 : Shape := ⟨2, ![64, 1024]⟩
abbrev S1024x16384 : Shape := ⟨2, ![1024, 16384]⟩
abbrev S128x8192 : Shape := ⟨2, ![128, 8192]⟩
abbrev S8x1024 : Shape := ⟨2, ![8, 1024]⟩
abbrev S128x16384 : Shape := ⟨2, ![128, 16384]⟩
abbrev S8x128 : Shape := ⟨2, ![8, 128]⟩
abbrev S8x128x1 : Shape := ⟨3, ![8, 128, 1]⟩
abbrev S32x128 : Shape := ⟨2, ![32, 128]⟩
abbrev S1x128 : Shape := ⟨2, ![1, 128]⟩
abbrev S16x128 : Shape := ⟨2, ![16, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .i8⟩
  | .hbm, ⟨1, _⟩ => ⟨S64x1024, .fp8e4m3⟩
  | .hbm, ⟨2, _⟩ => ⟨S1024x16384, .bf16⟩
  | .local _ .vmem, ⟨0, _⟩ => ⟨S128x8192, .i8⟩
  | .local _ .vmem, ⟨1, _⟩ => ⟨S128x8192, .i8⟩
  | .local _ .vmem, ⟨2, _⟩ => ⟨S8x1024, .fp8e4m3⟩
  | .local _ .vmem, ⟨3, _⟩ => ⟨S8x1024, .fp8e4m3⟩
  | .local _ .vmem, ⟨4, _⟩ => ⟨S128x16384, .bf16⟩
  | .local _ .vmem, ⟨5, _⟩ => ⟨S128x16384, .bf16⟩
  | _, _ => ⟨S1024x8192, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c128_i32 : BitVec 32 := 128#32
  let v5 : BitVec 32 := Scalar.addi c0_i32 c128_i32
  let c1_i32_0 : BitVec 32 := 1#32
  ⟨c0_i32, v5, c1_i32_0⟩
def k0_mult1 (k0_t1 : Fin k0_t1_loop.trips) : BitVec 32 :=
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c4_i32_7 : BitVec 32 := 4#32
  let v20 : BitVec 32 := Scalar.shrsi v7 c4_i32_7
  let c128_i32_8 : BitVec 32 := 128#32
  let v21 : BitVec 32 := Scalar.muli v20 c128_i32_8
  v21
def k0_mult2 (k0_t1 : Fin k0_t1_loop.trips) : BitVec 32 :=
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c1_i32_9 : BitVec 32 := 1#32
  let v23 : BitVec 32 := Scalar.shrsi v7 c1_i32_9
  let c128_i32_10 : BitVec 32 := 128#32
  let v24 : BitVec 32 := Scalar.muli v23 c128_i32_10
  v24
def k0_mult3 (k0_t1 : Fin k0_t1_loop.trips) : BitVec 32 :=
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  v26
def k0_off1 (k0_t1 : Fin k0_t1_loop.trips) : Fin 2 → Nat :=
  let c0 : Index := 0#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c4_i32_7 : BitVec 32 := 4#32
  let v20 : BitVec 32 := Scalar.shrsi v7 c4_i32_7
  let c128_i32_8 : BitVec 32 := 128#32
  let v21 : BitVec 32 := Scalar.muli v20 c128_i32_8
  let v22 : BitVec 32 := v21
  let v28 : Index := Scalar.indexCast v22
  ![0, v28.toNat]
def k0_off2 (k0_t1 : Fin k0_t1_loop.trips) : Fin 2 → Nat :=
  let c0_14 : Index := 0#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c1_i32_9 : BitVec 32 := 1#32
  let v23 : BitVec 32 := Scalar.shrsi v7 c1_i32_9
  let c128_i32_10 : BitVec 32 := 128#32
  let v24 : BitVec 32 := Scalar.muli v23 c128_i32_10
  let v25 : BitVec 32 := v24
  let v41 : Index := Scalar.indexCast v25
  ![0, v41.toNat]
def k0_off3 (k0_t1 : Fin k0_t1_loop.trips) : Fin 2 → Nat :=
  let c0_18 : Index := 0#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v70 : Index := Scalar.indexCast v27
  ![0, v70.toNat]
def k0_off4 (k0_t1 : Fin k0_t1_loop.trips) : Fin 2 → Nat :=
  let c16 : Index := 16#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v78 : Index := Scalar.indexCast v27
  ![16, v78.toNat]
def k0_off5 (k0_t1 : Fin k0_t1_loop.trips) : Fin 2 → Nat :=
  let c32 : Index := 32#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c1_i32_9 : BitVec 32 := 1#32
  let v23 : BitVec 32 := Scalar.shrsi v7 c1_i32_9
  let c128_i32_10 : BitVec 32 := 128#32
  let v24 : BitVec 32 := Scalar.muli v23 c128_i32_10
  let v25 : BitVec 32 := v24
  let v80 : Index := Scalar.indexCast v25
  ![32, v80.toNat]
def k0_off6 (k0_t1 : Fin k0_t1_loop.trips) : Fin 2 → Nat :=
  let c32_25 : Index := 32#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v109 : Index := Scalar.indexCast v27
  ![32, v109.toNat]
def k0_off7 (k0_t1 : Fin k0_t1_loop.trips) : Fin 2 → Nat :=
  let c48 : Index := 48#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v117 : Index := Scalar.indexCast v27
  ![48, v117.toNat]
def k0_off8 (k0_t1 : Fin k0_t1_loop.trips) : Fin 2 → Nat :=
  let c64 : Index := 64#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c1_i32_9 : BitVec 32 := 1#32
  let v23 : BitVec 32 := Scalar.shrsi v7 c1_i32_9
  let c128_i32_10 : BitVec 32 := 128#32
  let v24 : BitVec 32 := Scalar.muli v23 c128_i32_10
  let v25 : BitVec 32 := v24
  let v119 : Index := Scalar.indexCast v25
  ![64, v119.toNat]
def k0_off9 (k0_t1 : Fin k0_t1_loop.trips) : Fin 2 → Nat :=
  let c64_32 : Index := 64#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v148 : Index := Scalar.indexCast v27
  ![64, v148.toNat]
def k0_off10 (k0_t1 : Fin k0_t1_loop.trips) : Fin 2 → Nat :=
  let c80 : Index := 80#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v156 : Index := Scalar.indexCast v27
  ![80, v156.toNat]
def k0_off11 (k0_t1 : Fin k0_t1_loop.trips) : Fin 2 → Nat :=
  let c96 : Index := 96#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c1_i32_9 : BitVec 32 := 1#32
  let v23 : BitVec 32 := Scalar.shrsi v7 c1_i32_9
  let c128_i32_10 : BitVec 32 := 128#32
  let v24 : BitVec 32 := Scalar.muli v23 c128_i32_10
  let v25 : BitVec 32 := v24
  let v158 : Index := Scalar.indexCast v25
  ![96, v158.toNat]
def k0_off12 (k0_t1 : Fin k0_t1_loop.trips) : Fin 2 → Nat :=
  let c96_39 : Index := 96#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v187 : Index := Scalar.indexCast v27
  ![96, v187.toNat]
def k0_off13 (k0_t1 : Fin k0_t1_loop.trips) : Fin 2 → Nat :=
  let c112 : Index := 112#32
  let c0_i32_3 : BitVec 32 := 0#32
  let c0_i32 : BitVec 32 := 0#32
  let c1_i32_0 : BitVec 32 := 1#32
  let arg4 : BitVec 32 := Scf.iv c0_i32 c1_i32_0 k0_t1
  let c1_i32_2 : BitVec 32 := 1#32
  let v6 : BitVec 32 := Scalar.muli arg4 c1_i32_2
  let v7 : BitVec 32 := Scalar.addi c0_i32_3 v6
  let c128_i32_11 : BitVec 32 := 128#32
  let v26 : BitVec 32 := Scalar.muli v7 c128_i32_11
  let v27 : BitVec 32 := v26
  let v195 : Index := Scalar.indexCast v27
  ![112, v195.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WdecReferenceIdeal.lean ====
abbrev S1024x8192 : Shape := ⟨2, ![1024, 8192]⟩
abbrev S64x1024 : Shape := ⟨2, ![64, 1024]⟩
abbrev S_ : Shape := ⟨0, ![]⟩
abbrev S1024x8192x1 : Shape := ⟨3, ![1024, 8192, 1]⟩
abbrev S1024x8192x2 : Shape := ⟨3, ![1024, 8192, 2]⟩
abbrev S1024x16384 : Shape := ⟨2, ![1024, 16384]⟩
abbrev S64x16x1024x16 : Shape := ⟨4, ![64, 16, 1024, 16]⟩
abbrev S64x1x1024x1 : Shape := ⟨4, ![64, 1, 1024, 1]⟩

abbrev nBuf : Space → Nat
  | .hbm => 70
  | .vmem => 2
  | .smem => 0
  | _ => 0

abbrev bufTy : (tb : Table) → Fin (tcTables nBuf tb) → BufTy
  | .hbm, ⟨0, _⟩ => ⟨S1024x8192, .i8⟩
  | .hbm, ⟨1, _⟩ => ⟨S64x1024, .fp8e4m3⟩
  | .hbm, ⟨2, _⟩ => ⟨S64x1024, .bf16⟩
  | .hbm, ⟨3, _⟩ => ⟨S1024x8192, .i32⟩
  | .hbm, ⟨4, _⟩ => ⟨S_, .i32⟩
  | .hbm, ⟨5, _⟩ => ⟨S1024x8192, .i32⟩
  | .hbm, ⟨6, _⟩ => ⟨S1024x8192, .i32⟩
  | .hbm, ⟨7, _⟩ => ⟨S_, .i32⟩
  | .hbm, ⟨8, _⟩ => ⟨S1024x8192, .i32⟩
  | .hbm, ⟨9, _⟩ => ⟨S1024x8192, .i32⟩
  | .hbm, ⟨10, _⟩ => ⟨S1024x8192x1, .i32⟩
  | .hbm, ⟨11, _⟩ => ⟨S1024x8192x1, .i32⟩
  | .hbm, ⟨12, _⟩ => ⟨S1024x8192x2, .i32⟩
  | .hbm, ⟨13, _⟩ => ⟨S1024x16384, .i32⟩
  | .hbm, ⟨14, _⟩ => ⟨S_, .i32⟩
  | .hbm, ⟨15, _⟩ => ⟨S1024x16384, .i32⟩
  | .hbm, ⟨16, _⟩ => ⟨S1024x16384, .i32⟩
  | .hbm, ⟨17, _⟩ => ⟨S_, .i32⟩
  | .hbm, ⟨18, _⟩ => ⟨S1024x16384, .i32⟩
  | .hbm, ⟨19, _⟩ => ⟨S1024x16384, .i32⟩
  | .hbm, ⟨20, _⟩ => ⟨S_, .i32⟩
  | .hbm, ⟨21, _⟩ => ⟨S1024x16384, .i32⟩
  | .hbm, ⟨22, _⟩ => ⟨S1024x16384, .i32⟩
  | .hbm, ⟨23, _⟩ => ⟨S_, .i32⟩
  | .hbm, ⟨24, _⟩ => ⟨S1024x16384, .i32⟩
  | .hbm, ⟨25, _⟩ => ⟨S1024x16384, .i32⟩
  | .hbm, ⟨26, _⟩ => ⟨S_, .i32⟩
  | .hbm, ⟨27, _⟩ => ⟨S1024x16384, .i32⟩
  | .hbm, ⟨28, _⟩ => ⟨S1024x16384, .i32⟩
  | .hbm, ⟨29, _⟩ => ⟨S1024x16384, .f32⟩
  | .hbm, ⟨30, _⟩ => ⟨S_, .i32⟩
  | .hbm, ⟨31, _⟩ => ⟨S1024x16384, .i32⟩
  | .hbm, ⟨32, _⟩ => ⟨S1024x16384, .i1⟩
  | .hbm, ⟨33, _⟩ => ⟨S_, .f32⟩
  | .hbm, ⟨34, _⟩ => ⟨S1024x16384, .f32⟩
  | .hbm, ⟨35, _⟩ => ⟨S1024x16384, .f32⟩
  | .hbm, ⟨36, _⟩ => ⟨S_, .f32⟩
  | .hbm, ⟨37, _⟩ => ⟨S1024x16384, .f32⟩
  | .hbm, ⟨38, _⟩ => ⟨S1024x16384, .f32⟩
  | .hbm, ⟨39, _⟩ => ⟨S_, .f32⟩
  | .hbm, ⟨40, _⟩ => ⟨S1024x16384, .f32⟩
  | .hbm, ⟨41, _⟩ => ⟨S1024x16384, .f32⟩
  | .hbm, ⟨42, _⟩ => ⟨S_, .i32⟩
  | .hbm, ⟨43, _⟩ => ⟨S1024x16384, .i32⟩
  | .hbm, ⟨44, _⟩ => ⟨S1024x16384, .i1⟩
  | .hbm, ⟨45, _⟩ => ⟨S_, .i32⟩
  | .hbm, ⟨46, _⟩ => ⟨S1024x16384, .i32⟩
  | .hbm, ⟨47, _⟩ => ⟨S1024x16384, .i1⟩
  | .hbm, ⟨48, _⟩ => ⟨S_, .f32⟩
  | .hbm, ⟨49, _⟩ => ⟨S_, .f32⟩
  | .hbm, ⟨50, _⟩ => ⟨S1024x16384, .f32⟩
  | .hbm, ⟨51, _⟩ => ⟨S1024x16384, .f32⟩
  | .hbm, ⟨52, _⟩ => ⟨S1024x16384, .f32⟩
  | .hbm, ⟨53, _⟩ => ⟨S_, .f32⟩
  | .hbm, ⟨54, _⟩ => ⟨S1024x16384, .f32⟩
  | .hbm, ⟨55, _⟩ => ⟨S1024x16384, .f32⟩
  | .hbm, ⟨56, _⟩ => ⟨S1024x16384, .f32⟩
  | .hbm, ⟨57, _⟩ => ⟨S1024x16384, .f32⟩
  | .hbm, ⟨58, _⟩ => ⟨S1024x16384, .f32⟩
  | .hbm, ⟨59, _⟩ => ⟨S_, .i32⟩
  | .hbm, ⟨60, _⟩ => ⟨S1024x16384, .i32⟩
  | .hbm, ⟨61, _⟩ => ⟨S1024x16384, .i1⟩
  | .hbm, ⟨62, _⟩ => ⟨S1024x16384, .f32⟩
  | .hbm, ⟨63, _⟩ => ⟨S1024x16384, .f32⟩
  | .hbm, ⟨64, _⟩ => ⟨S1024x16384, .bf16⟩
  | .hbm, ⟨65, _⟩ => ⟨S64x16x1024x16, .bf16⟩
  | .hbm, ⟨66, _⟩ => ⟨S64x1x1024x1, .bf16⟩
  | .hbm, ⟨67, _⟩ => ⟨S64x16x1024x16, .bf16⟩
  | .hbm, ⟨68, _⟩ => ⟨S64x16x1024x16, .bf16⟩
  | .hbm, ⟨69, _⟩ => ⟨S1024x16384, .bf16⟩
  | .local _ .vmem, ⟨0, _⟩ => ⟨S64x1024, .fp8e4m3⟩
  | .local _ .vmem, ⟨1, _⟩ => ⟨S64x1024, .bf16⟩
  | _, _ => ⟨S1024x8192, .i8⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_c_9 : Ref sig .tc := ⟨.hbm, 42, rfl⟩
abbrev main_v29 : Ref sig .tc := ⟨.hbm, 43, rfl⟩
abbrev main_v30 : Ref sig .tc := ⟨.hbm, 44, rfl⟩
abbrev main_c_10 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_cst_12 : Ref sig .tc := ⟨.hbm, 49, rfl⟩
abbrev main_call0_v0 : Ref sig .tc := ⟨.hbm, 50, rfl⟩
abbrev main_call0_v1 : Ref sig .tc := ⟨.hbm, 51, rfl⟩
abbrev main_v33 : Ref sig .tc := ⟨.hbm, 52, rfl⟩
abbrev main_cst_13 : Ref sig .tc := ⟨.hbm, 53, rfl⟩
abbrev main_call1_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_14 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S64x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.AmaxSpec.lean ====
module

public import Idealize.ShloMosaic.Lib.Pipeline.ValueKit

@[expose] public section
set_option maxRecDepth 16384

/-! The global scale of the incoming gradient as a function of the gradient: what the kernel that looks for
the largest magnitude and its reference are both shown to leave. -/

noncomputable section
namespace Cert.AmaxSpec
open Idealize.ShloMosaic

/-- The magnitude of an element. -/
def mag (X : FVec Ideal ⟨2, ![12288, 1024]⟩ .bf16) (r : Fin 12288) (k : Fin 1024) : EReal := FloatOps.absf (F := Ideal) (φ := .bf16) (X (ix2 r k))
/-- A magnitude is not negative. -/
theorem mag_nonneg (X : FVec Ideal ⟨2, ![12288, 1024]⟩ .bf16) (r : Fin 12288) (k : Fin 1024) : 0 ≤ mag X r k := by
  show (0 : EReal) ≤ max _ (-_)
  rcases le_total (0 : EReal) (X (ix2 r k)) with h | h
  · exact le_max_of_le_left h
  · exact le_max_of_le_right (EReal.neg_nonneg.mpr h)
/-- The largest magnitude of the gradient. -/
def peak (X : FVec Ideal ⟨2, ![12288, 1024]⟩ .bf16) : EReal := Finset.univ.sup fun k : Fin 12288 × Fin 1024 => mag X k.1 k.2
/-- The largest magnitude is at most a bound exactly when every magnitude is. -/
theorem peak_le (X : FVec Ideal ⟨2, ![12288, 1024]⟩ .bf16) (z : EReal) : peak X ≤ z ↔ ∀ r k, mag X r k ≤ z := by
  unfold peak
  simp only [Finset.sup_le_iff, Finset.mem_univ, true_implies, Prod.forall]
/-- A global scale from the largest magnitude: one 2688th of it, or 1 when it is zero. -/
def scaleOf (p : EReal) : EReal := if p = 0 then 1 else Ideal.div p (Ideal.ofBits .f32 0x45280000#32)
/-- The first result: the global scale everywhere. -/
def gs (X : FVec Ideal ⟨2, ![12288, 1024]⟩ .bf16) : FVec Ideal ⟨2, ![8, 128]⟩ .f32 := fun _ => scaleOf (peak X)
/-- The second result: the global scale times the weights' global scale everywhere. -/
def ss (X : FVec Ideal ⟨2, ![12288, 1024]⟩ .bf16) (w : EReal) : FVec Ideal ⟨2, ![8, 128]⟩ .f32 := fun _ => (scaleOf (peak X) * w : EReal)
/-- The single-precision pattern of minus infinity is the least value. -/
theorem bot32 : Ideal.ofBits .f32 0xFF800000#32 = ⊥ := by simp [Ideal.ofBits, Ideal.ieee]
/-- The half-width pattern of minus infinity is the least value. -/
theorem bot16 : Ideal.ofBits .bf16 0xFF80#16 = ⊥ := by simp [Ideal.ofBits, Ideal.ieee]

end Cert.AmaxSpec
end
-- ==== Proof.AmaxValue.lean ====
module

public import proofs.«01_k».proof.Proof.Gen.AmaxIdeal.Value
public import proofs.«01_k».proof.Proof.AmaxSpec
public import Idealize.ShloMosaic.Lib.Pipeline.ReadBack
public import Idealize.ShloMosaic.Lib.Claim

@[expose] public section
set_option maxRecDepth 16384

/-! What the kernel of the global scale leaves. Its scratch holds, per lane, the largest magnitude of the blocks
seen so far; the last point reduces the scratch to one number. -/

noncomputable section
namespace Cert.AmaxIdeal.Hand
open Idealize.ShloMosaic Idealize.ShloMosaic.TcCoe Idealize.ShloMosaic.Tactic Cert.AmaxIdeal Cert.AmaxIdeal.Gen
open Idealize.SL Idealize.SL.Sem
open Idealize.ShloMosaic.Pipeline (Dat)

/-- The scratch starts at zero. -/
theorem pay1_at (i : Fin 16) (l : Fin 1024) : k0_pay1 (F := Ideal) (ix2 i l) = (0 : EReal) := by
  pointwise [k0_pay1]
/-- A step is at most a bound exactly when what the scratch held and the block's magnitudes on the lane are. -/
theorem pay2_le (x : FVec Ideal S1024x1024 .bf16) (a : FVec Ideal S16x1024 .bf16) (i : Fin 16) (l : Fin 1024) (z : EReal) :
    (k0_pay2 (F := Ideal) x a (ix2 i l) : EReal) ≤ z
      ↔ (a (ix2 i l) : EReal) ≤ z ∧ ∀ q : Fin 64, (FloatOps.absf (F := Ideal) (φ := .bf16) (x (ix2 ⟨q.val * 16 + i.val, by omega⟩ l)) : EReal) ≤ z := by
  pointwise [k0_pay2]
  rw [max_le_iff, Finset.fold_max_le, Cert.AmaxSpec.bot16]
  exact ⟨fun h => ⟨h.1, fun q => h.2.2 q (Finset.mem_univ _)⟩, fun h => ⟨h.1, bot_le, fun q _ => h.2 q⟩⟩
/-- The largest entry of the scratch. -/
def big (a : FVec Ideal S16x1024 .bf16) : EReal := Finset.fold max (Ideal.ofBits .f32 0xFF800000#32) (fun x : Fin 16 × Fin 1024 => (a (ix2 x.1 x.2) : EReal)) Finset.univ
/-- The first result is the scale of the largest entry. -/
theorem pay3_at (a : FVec Ideal S16x1024 .bf16) (i : Fin 8) (l : Fin 128) : (k0_pay3 (F := Ideal) a (ix2 i l) : EReal) = Cert.AmaxSpec.scaleOf (big a) := by
  pointwise [k0_pay3]
  rfl
/-- The second result is the first times the weights' global scale. -/
theorem pay4_at (a : FVec Ideal S16x1024 .bf16) (w : EReal) (i : Fin 8) (l : Fin 128) :
    (k0_pay4 (F := Ideal) a w (ix2 i l) : EReal) = Cert.AmaxSpec.scaleOf (big a) * w := by
  rw [← pay3_at a i l]
  unfold k0_pay4
  pointwise

variable (m : (ℓ : Loc nD τ sig) → Buf (Elt Ideal) ℓ)

/-- The gradient. -/
abbrev aX (c : Dev nD) : FVec Ideal S12288x1024 .bf16 := m ((c.tc : Thread nD τ).loc main_arg0)
/-- The weights' global scale. -/
abbrev aWg (c : Dev nD) : EReal := (m ((c.tc : Thread nD τ).loc main_arg1) : FVec Ideal S_ .f32) ix0

/-- Every window's block index at a point. -/
theorem idx : ∀ t : Fin cfg0.N, win0_0.index t = ![t.val, 0] ∧ win0_1.index t = ![0, 0] :=
  (by decide +kernel : ∀ t : Fin grid0.N, _)
/-- An element of the gradient's block. -/
theorem iblk0_at (c : Dev nD) (t : Fin cfg0.N) (ht : t.val < 12) (R : Fin 1024) (k : Fin 1024) :
    (iblk m c 0 t : Vec Ideal S1024x1024 .bf16) (ix2 R k) = aX m c (ix2 ⟨1024 * t.val + R.val, by omega⟩ k) := by
  blk_ext [iblk, V, idx t]
/-- The weights' global scale, as the kernel reads it. -/
theorem iblk1_at (c : Dev nD) (t : Fin cfg0.N) (j : S1x1.Idx) :
    (iblk m c 1 t : Vec Ideal S1x1 .f32) j = aWg m c := by
  idx_vars j
  blk_simp [iblk]
  entry_read
  pointwise

/-- Reading back the scratch as it was left gives what was left. -/
theorem rd (h : (Memref.whole cc0_scratch0).IsWhole) (v : FVec Ideal S16x1024 .bf16) :
    View.read (Elt Ideal) (View.whole cc0_scratch0) (h.unread v) = v :=
  Idealize.ShloMosaic.read_unread_whole (Val := Elt Ideal) cc0_scratch0 h v
/-- What the scratch holds after a point. -/
def acc (c : Dev nD) (n : ℕ) (h : n < cfg0.N) : FVec Ideal S16x1024 .bf16 := (outsAt0 m c n h).2.2
/-- The first point's scratch. -/
theorem acc_zero (c : Dev nD) (h : 0 < cfg0.N) : acc m c 0 h = k0_pay2 (F := Ideal) (iblk m c 0 ⟨0, h⟩) (k0_pay1 (F := Ideal)) := by
  funext j
  unfold acc
  rw [outsAt0_A m c ⟨0, h⟩ (by show 0 % 12 = 0; decide) (by show ¬ 0 % 12 = 11; decide)]
  frame_out
/-- A later point's scratch. -/
theorem acc_succ (c : Dev nD) (n : ℕ) (h : n + 1 < cfg0.N) :
    acc m c (n + 1) h = k0_pay2 (F := Ideal) (iblk m c 0 ⟨n + 1, h⟩) (acc m c n (Nat.lt_of_succ_lt h)) := by
  have hN : n + 1 < 12 := lt_of_lt_of_eq h N_0
  have h0 : ¬ (n + 1) % 12 = 0 := by omega
  funext j
  unfold acc
  by_cases h1 : (n + 1) % 12 = 11
  · rw [outsAt0_C m c ⟨n + 1, h⟩ h0 h1]
    frame_out
    exact congrArg (fun a => k0_pay2 (F := Ideal) (iblk m c 0 ⟨n + 1, h⟩) a j) (rd _ _)
  · rw [outsAt0_B m c ⟨n + 1, h⟩ h0 h1]
    frame_out
    exact congrArg (fun a => k0_pay2 (F := Ideal) (iblk m c 0 ⟨n + 1, h⟩) a j) (rd _ _)
/-- The scratch after a point is at most a bound exactly when zero and the magnitudes seen so far on the lane are. -/
theorem acc_le (c : Dev nD) (r : Fin 16) (l : Fin 1024) (z : EReal) : ∀ (n : ℕ) (h : n < cfg0.N),
    (acc m c n h (ix2 r l) : EReal) ≤ z ↔ 0 ≤ z ∧ ∀ i : Fin 12, i.val ≤ n → ∀ q : Fin 64,
      Cert.AmaxSpec.mag (aX m c) ⟨1024 * i.val + (q.val * 16 + r.val), by omega⟩ l ≤ z := by
  have key : ∀ (n : ℕ) (h : n < cfg0.N) (q : Fin 64), (FloatOps.absf (F := Ideal) (φ := .bf16)
      ((iblk m c 0 ⟨n, h⟩ : Vec Ideal S1024x1024 .bf16) (ix2 ⟨q.val * 16 + r.val, by omega⟩ l)) : EReal)
      = Cert.AmaxSpec.mag (aX m c) ⟨1024 * n + (q.val * 16 + r.val), by have : n < 12 := lt_of_lt_of_eq h N_0; omega⟩ l := by
    intro n h q
    rw [iblk0_at m c ⟨n, h⟩ (lt_of_lt_of_eq h N_0)]
    rfl
  intro n
  induction n with
  | zero =>
    intro h
    rw [acc_zero, pay2_le, pay1_at]
    refine and_congr Iff.rfl ⟨fun H i hi q => ?_, fun H q => ?_⟩
    · have e : i = 0 := Fin.ext (by simpa using hi)
      subst e
      exact (key 0 h q) ▸ H q
    · exact (key 0 h q).symm ▸ H 0 (Nat.le_refl _) q
  | succ n ih =>
    intro h
    have hN : n + 1 < 12 := lt_of_lt_of_eq h N_0
    rw [acc_succ, pay2_le, ih]
    constructor
    · rintro ⟨⟨hz, H⟩, K⟩
      refine ⟨hz, fun i hi q => ?_⟩
      rcases Nat.lt_or_ge n i.val with hlt | hge
      · have e : i = ⟨n + 1, hN⟩ := Fin.ext (by show i.val = n + 1; omega)
        subst e
        exact (key (n + 1) h q) ▸ K q
      · exact H i hge q
    · rintro ⟨hz, H⟩
      exact ⟨⟨hz, fun i hi q => H i (by omega) q⟩, fun q => (key (n + 1) h q).symm ▸ H ⟨n + 1, hN⟩ (Nat.le_refl _) q⟩
/-- The largest entry of the last scratch is the largest magnitude. -/
theorem big_acc (c : Dev nD) (h : 11 < cfg0.N) : big (acc m c 11 h) = Cert.AmaxSpec.peak (aX m c) := by
  refine eq_of_forall_ge_iff fun z => ?_
  unfold big
  rw [Finset.fold_max_le, Cert.AmaxSpec.bot32, Cert.AmaxSpec.peak_le]
  simp only [Finset.mem_univ, true_implies, Prod.forall, bot_le, true_and]
  constructor
  · intro H R l
    have H' := ((acc_le m c ⟨R.val % 16, by omega⟩ l z 11 h).mp (H ⟨R.val % 16, by omega⟩ l)).2
      ⟨R.val / 1024, by omega⟩ (by show R.val / 1024 ≤ 11; omega) ⟨R.val % 1024 / 16, by omega⟩
    have e : (⟨1024 * (R.val / 1024) + (R.val % 1024 / 16 * 16 + R.val % 16), by omega⟩ : Fin 12288) = R := Fin.ext (by show 1024 * (R.val / 1024) + (R.val % 1024 / 16 * 16 + R.val % 16) = R.val; omega)
    rw [← e]
    exact H'
  · intro H
    exact fun r l => (acc_le m c r l z 11 h).mpr ⟨le_trans (Cert.AmaxSpec.mag_nonneg (aX m c) 0 0) (H 0 0), fun i _ q => H _ _⟩

/-- The first result's array. -/
theorem final2 (c : Dev nD) : Cert.AmaxIdeal.Value.G2 m c = Cert.AmaxSpec.gs (aX m c) := by
  have h : 11 < cfg0.N := lt_of_lt_of_eq (by decide) N_0.symm
  rw [Cert.AmaxIdeal.Value.G2_last, ← Cert.AmaxIdeal.Value.outsAt0_sweep m c 11 h]
  funext j
  refine Eq.trans (b := (k0_pay3 (F := Ideal) (acc m c 11 h) j : EReal)) ?_ ?_
  · rw [acc_succ]
    rw [outsAt0_C m c ⟨11, h⟩ (by show ¬ 11 % 12 = 0; decide) (by show 11 % 12 = 11; decide)]
    frame_out
    exact congrArg (fun a => k0_pay3 (F := Ideal) (k0_pay2 (F := Ideal) (iblk m c 0 ⟨11, h⟩) a) j) (rd _ _)
  · idx_vars j
    rw [pay3_at, big_acc]
    rfl
/-- The second result's array. -/
theorem final3 (c : Dev nD) : Cert.AmaxIdeal.Value.G3 m c = Cert.AmaxSpec.ss (aX m c) (aWg m c) := by
  have h : 11 < cfg0.N := lt_of_lt_of_eq (by decide) N_0.symm
  rw [Cert.AmaxIdeal.Value.G3_last, ← Cert.AmaxIdeal.Value.outsAt0_sweep m c 11 h]
  funext j
  refine Eq.trans (b := (k0_pay4 (F := Ideal) (acc m c 11 h) (aWg m c) j : EReal)) ?_ ?_
  · rw [acc_succ]
    rw [outsAt0_C m c ⟨11, h⟩ (by show ¬ 11 % 12 = 0; decide) (by show 11 % 12 = 11; decide)]
    frame_out
    exact congrArg₂ (fun a w => k0_pay4 (F := Ideal) (k0_pay2 (F := Ideal) (iblk m c 0 ⟨11, h⟩) a) w j) (rd _ _) (iblk1_at m c _ _)
  · idx_vars j
    rw [pay4_at, big_acc]
    rfl

/-- What the kernel leaves: the two results, and the argument arrays unchanged. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v1_0) = Cert.AmaxSpec.gs (aX m c)
      ∧ r.2.mem ((c.tc : Thread nD τ).loc main_v1_1) = Cert.AmaxSpec.ss (aX m c) (aWg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (Cert.AmaxIdeal.Value.run m ρ)
  obtain ⟨h0, h1, hr⟩ := h c
  exact ⟨h0.trans (final2 m c), h1.trans (final3 m c), hr⟩

end Cert.AmaxIdeal.Hand
end
-- ==== Proof.AmaxRef.lean ====
module

public import proofs.«01_k».proof.Proof.Gen.AmaxReferenceIdeal.Run
public import proofs.«01_k».proof.Proof.AmaxSpec
public import Idealize.ShloMosaic.Lib.Claim

@[expose] public section
set_option maxRecDepth 16384

/-! What the reference of the global scale leaves. -/

noncomputable section
namespace Cert.AmaxReferenceIdeal.Hand
open Idealize.ShloMosaic Idealize.ShloMosaic.TcCoe Idealize.ShloMosaic.Tactic Cert.AmaxReferenceIdeal Cert.AmaxReferenceIdeal.Gen
open Idealize.SL Idealize.SL.Sem

/-- The largest magnitude, as the reference reduces it. -/
def top (x : FVec Ideal S12288x1024 .bf16) : FVec Ideal S_ .f32 :=
  Host.reduce FloatOps.maximumf (Host.absf (extf .f32 x bitsLt_bf16_f32)) (constant S_ .f32 0xFF800000#32) reducesTo_S12288x1024_S_d0_1 h_S_
/-- It is the largest magnitude. -/
theorem top_at (x : FVec Ideal S12288x1024 .bf16) : top x ix0 = Cert.AmaxSpec.peak x := by
  pointwise [top]
  refine eq_of_forall_ge_iff fun z => ?_
  rw [Finset.fold_max_le, Cert.AmaxSpec.bot32, Cert.AmaxSpec.peak_le]
  simp only [Finset.mem_univ, true_implies, Prod.forall, bot_le, true_and]
  exact Iff.rfl
/-- The global scale from the largest magnitude, as the reference computes it. -/
def gv (t : FVec Ideal S_ .f32) : FVec Ideal S_ .f32 :=
  select (cmpf .oeq t (constant S_ .f32 0x00000000#32)) (id (constant S_ .f32 0x3F800000#32)) (Host.divf t (constant S_ .f32 0x45280000#32))
/-- It is the scale of the largest magnitude. -/
theorem gv_at (t : FVec Ideal S_ .f32) : gv t ix0 = Cert.AmaxSpec.scaleOf (t ix0) := by
  unfold gv
  rw [id]
  pointwise
  rfl
/-- The first result over any scale. -/
theorem g_eq (t : FVec Ideal S_ .f32) : broadcastInDim S8x128 ![] bcast_S_S8x128 t = fun _ => t ix0 := by
  funext j
  idx_vars j
  pointwise
/-- The second result over any scale. -/
theorem s_eq (t w : FVec Ideal S_ .f32) : broadcastInDim S8x128 ![] bcast_S_S8x128 (mulf t w) = fun _ => (t ix0 * w ix0 : EReal) := by
  funext j
  idx_vars j
  pointwise

variable (m : (ℓ : Loc nD τ sig) → Buf (Elt Ideal) ℓ)

/-- The gradient. -/
abbrev aX (c : Dev nD) : FVec Ideal S12288x1024 .bf16 := m ((c.tc : Thread nD τ).loc main_arg0)
/-- The weights' global scale. -/
abbrev aWg (c : Dev nD) : EReal := (m ((c.tc : Thread nD τ).loc main_arg1) : FVec Ideal S_ .f32) ix0

/-- What the reference leaves: the two results, and the argument arrays unchanged. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v6) = Cert.AmaxSpec.gs (aX m c)
      ∧ r.2.mem ((c.tc : Thread nD τ).loc main_v8) = Cert.AmaxSpec.ss (aX m c) (aWg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (Cert.AmaxReferenceIdeal.Value.run m ρ)
  obtain ⟨h0, h1, hr⟩ := h c
  refine ⟨h0.trans ?_, h1.trans ?_, hr⟩
  · refine (g_eq (gv (top (aX m c)))).trans ?_
    rw [gv_at, top_at]; rfl
  · refine (s_eq (gv (top (aX m c))) _).trans ?_
    rw [gv_at, top_at]; rfl

end Cert.AmaxReferenceIdeal.Hand
end
-- ==== Proof.WdecSpec.lean ====
module

public import Idealize.ShloMosaic.Lib.Pipeline.ValueKit

@[expose] public section
set_option maxRecDepth 16384

/-! The decoded weights over the extended reals: every byte holds two four-bit codes, a code is a sign, two exponent bits
and a mantissa bit, and its value is multiplied by its block's scale. -/

noncomputable section
namespace Cert.WdecSpec
open Idealize.ShloMosaic

/-- The magnitude of a three-bit code. -/
def mg : ℕ → ℝ
  | 0 => 0
  | 1 => 1 / 2
  | 2 => 1
  | 3 => 3 / 2
  | 4 => 2
  | 5 => 3
  | 6 => 4
  | _ => 6
/-- The value of a four-bit code. -/
def nv (n : ℕ) : ℝ := if n < 8 then mg n else - mg (n - 8)
/-- The low (`h = 0`) or the high (`h = 1`) code of a byte. -/
def nib (b : BitVec 8) (h : ℕ) : ℕ := b.toNat / 16 ^ h % 16
/-- The decoded weights. -/
def weights (W : IVec ⟨2, ![1024, 8192]⟩ 8) (sc : FVec Ideal ⟨2, ![64, 1024]⟩ .fp8e4m3) : FVec Ideal ⟨2, ![1024, 16384]⟩ .bf16 :=
  fun i => (((nv (nib (W (ix2 ⟨(i 0).val % 1024, Nat.mod_lt _ (by decide)⟩ ⟨(i 1).val / 2 % 8192, Nat.mod_lt _ (by decide)⟩)) ((i 1).val % 2)) : ℝ) : EReal)
    * sc (ix2 ⟨(i 0).val / 16 % 64, Nat.mod_lt _ (by decide)⟩ ⟨(i 1).val / 16 % 1024, Nat.mod_lt _ (by decide)⟩) : EReal)

/-- The byte the kernel builds from a code: its sign at the top, its other three bits as the end of the exponent and the
start of the mantissa. -/
def wide (b : BitVec 8) (h : ℕ) : BitVec 8 := ((b >>> (4 * h)) &&& 7#8) <<< 2 ||| ((b >>> (4 * h)) &&& 8#8) <<< 4

/-- That byte, by the code. -/
theorem wide_eq (h : Fin 2) (b : BitVec 8) : wide b h.val
    = ((BitVec.ofNat 8 (nib b h.val) &&& 7#8) <<< 2 ||| (BitVec.ofNat 8 (nib b h.val) &&& 8#8) <<< 4) := by
  revert b h
  decide +kernel
/-- That byte read as an eight-bit float is the code's value over sixty-four. -/
theorem wide_val (b : BitVec 8) (h : Fin 2) : Ideal.ofBits .fp8e4m3 (wide b h.val) = ((nv (nib b h.val) * (1 / 64) : ℝ) : EReal) := by
  rw [wide_eq]
  have hn : nib b h.val < 16 := Nat.mod_lt _ (by decide)
  generalize nib b h.val = n at hn
  interval_cases n <;> (simp [Ideal.ofBits, Ideal.e4m3fn, Ideal.ieee, nv, mg, -EReal.coe_mul]; try norm_num)

/-- The scale carries the sixty-four that the byte's reading lacks. -/
theorem rescale (v : ℝ) (s : EReal) : (((v * (1 / 64) : ℝ) : EReal) * (s * ((64 : ℝ) : EReal)) : EReal) = (v : EReal) * s := by
  rw [mul_comm s, ← mul_assoc, ← EReal.coe_mul]
  congr 2
  ring

/-- A byte of a shifted and masked word is the masked byte. -/
theorem word_byte (w : BitVec 32) (b : BitVec 8) (i : Fin 4) (h : Fin 2) (hb : ∀ q < 8, w.getLsbD (8 * i.val + q) = b.getLsbD q)
    (q : ℕ) (hq : q < 8) :
    (((w >>> (4 * h.val)) &&& 117901063#32) <<< 2 ||| ((w >>> (4 * h.val)) &&& 134744072#32) <<< 4).getLsbD (8 * i.val + q)
      = (wide b h.val).getLsbD q := by
  have h0 := hb 0 (by decide)
  have h1 := hb 1 (by decide)
  have h2 := hb 2 (by decide)
  have h3 := hb 3 (by decide)
  have h4 := hb 4 (by decide)
  have h5 := hb 5 (by decide)
  have h6 := hb 6 (by decide)
  have h7 := hb 7 (by decide)
  clear hb
  unfold wide
  match i, h with
  | 0, 0 => interval_cases q <;> simp_all
  | 0, 1 => interval_cases q <;> simp_all
  | 1, 0 => interval_cases q <;> simp_all
  | 1, 1 => interval_cases q <;> simp_all
  | 2, 0 => interval_cases q <;> simp_all
  | 2, 1 => interval_cases q <;> simp_all
  | 3, 0 => interval_cases q <;> simp_all
  | 3, 1 => interval_cases q <;> simp_all

end Cert.WdecSpec
end
-- ==== Proof.WdecPieces.lean ====
module

public import proofs.«01_k».proof.Proof.Gen.WdecIdeal.Value
public import proofs.«01_k».proof.Proof.WdecSpec
public import Idealize.ShloMosaic.Lib.BitcastFour

@[expose] public section
set_option maxRecDepth 16384

/-! What one trip of the weight decoding's column loop stores: eight tiles of sixteen rows, each the product of a
decoded tile and a row of scales. -/

noncomputable section
namespace Cert.WdecIdeal.Hand
open Idealize.ShloMosaic Idealize.ShloMosaic.TcCoe Idealize.ShloMosaic.Tactic Cert.WdecIdeal Cert.WdecIdeal.Gen

variable {F : FTy → Type} [FloatOps F]

/-- The loop runs 128 trips. -/
theorem trips1 : k0_t1_loop.trips = 128 := by decide +kernel

/-- The lane numbers. -/
def lanes : IVec S8x128 32 := iota .tc S8x128 32 [1] iota_S8x128_d1_w32
/-- The lanes the codes are gathered from. -/
def gidx (k : Fin k0_t1_loop.trips) : IVec S8x128 32 := k0_pay3 lanes 0#32 1#32 k
/-- The row of scales of a sixteen-row tile. -/
def sclRow (v40 : FVec F S8x128 .f32) : Fin 4 → Fin 2 → FVec F S1x128 .f32
  | 0, 0 => extractStridedSlice S1x128 ![0, 0] v40 slices_S8x128_o0_0_S1x128
  | 0, 1 => extractStridedSlice S1x128 ![1, 0] v40 slices_S8x128_o1_0_S1x128
  | 1, 0 => extractStridedSlice S1x128 ![2, 0] v40 slices_S8x128_o2_0_S1x128
  | 1, 1 => extractStridedSlice S1x128 ![3, 0] v40 slices_S8x128_o3_0_S1x128
  | 2, 0 => extractStridedSlice S1x128 ![4, 0] v40 slices_S8x128_o4_0_S1x128
  | 2, 1 => extractStridedSlice S1x128 ![5, 0] v40 slices_S8x128_o5_0_S1x128
  | 3, 0 => extractStridedSlice S1x128 ![6, 0] v40 slices_S8x128_o6_0_S1x128
  | 3, 1 => extractStridedSlice S1x128 ![7, 0] v40 slices_S8x128_o7_0_S1x128
/-- The upper or the lower sixteen rows of a decoded tile. -/
def halfRows (x : FVec F S32x128 .bf16) : Fin 2 → FVec F S16x128 .bf16
  | 0 => extractStridedSlice S16x128 ![0, 0] x slices_S32x128_o0_0_S16x128
  | 1 => extractStridedSlice S16x128 ![16, 0] x slices_S32x128_o16_0_S16x128
/-- A stored tile from the scales and the codes tile. -/
def outTile (v40 : FVec F S8x128 .f32) (w : Vec F S32x128 .i8) (k : Fin k0_t1_loop.trips) (q : Fin 4) (h : Fin 2) : FVec F S16x128 .bf16 :=
  mulf (halfRows (k0_pay21 (F := F) k0_pay1 (gidx k) w) h)
    (truncf .bf16 (broadcastTo S16x128 (shapeCast S1x128 (sclRow v40 q h) shapeCasts_S1x128_S1x128 : FVec F S1x128 .f32) broadcasts_S1x128_S16x128) bitsLt_bf16_f32)

/-- Where a codes tile sits. -/
def woff (k : Fin k0_t1_loop.trips) : Fin 4 → Fin 2 → ℕ
  | 0 => k0_off2 k
  | 1 => k0_off5 k
  | 2 => k0_off8 k
  | 3 => k0_off11 k
/-- Its closed form. -/
theorem woff_eq : ∀ (k : Fin k0_t1_loop.trips) (q : Fin 4), woff k q = ![32 * q.val, 128 * (k.val / 2)] := by
  decide +kernel
/-- It is in range. -/
theorem woff_inb : ∀ (k : Fin k0_t1_loop.trips) (q : Fin 4) (a : Fin 2), woff k q a + S32x128.size a ≤ S128x8192.size a := by
  decide +kernel
/-- Where a stored tile sits. -/
def ooff (k : Fin k0_t1_loop.trips) : Fin 4 → Fin 2 → Fin 2 → ℕ
  | 0, 0 => k0_off3 k
  | 0, 1 => k0_off4 k
  | 1, 0 => k0_off6 k
  | 1, 1 => k0_off7 k
  | 2, 0 => k0_off9 k
  | 2, 1 => k0_off10 k
  | 3, 0 => k0_off12 k
  | 3, 1 => k0_off13 k
/-- Its closed form. -/
theorem ooff_eq : ∀ (k : Fin k0_t1_loop.trips) (q : Fin 4) (h : Fin 2), ooff k q h = ![32 * q.val + 16 * h.val, 128 * k.val] := by
  decide +kernel
/-- It is in range. -/
theorem ooff_inb : ∀ (k : Fin k0_t1_loop.trips) (q : Fin 4) (h : Fin 2) (a : Fin 2), ooff k q h a + S16x128.size a ≤ S128x16384.size a := by
  decide +kernel
/-- Where the scales sit. -/
theorem soff_eq : ∀ (k : Fin k0_t1_loop.trips), k0_off1 k = ![0, 128 * (k.val / 16)] := by
  decide +kernel

section T
variable (arg1 : Memref sig .tc .vmem S128x8192 .i8) (arg2 : Memref sig .tc .vmem S8x1024 .fp8e4m3)
  (X1 : BufTy.Contents (Elt F) arg1.view.ty) (X2 : BufTy.Contents (Elt F) arg2.view.ty) (k : Fin k0_t1_loop.trips)
/-- The codes tile a trip reads. -/
def codeTile (q : Fin 4) : Vec F S32x128 .i8 :=
  View.readAt (Elt F) arg1.view (Rect.unit (s := S128x8192) (woff k q) S32x128.size (woff_inb k q)).toLoadRect X1
/-- The gathered scales of a trip. -/
def sclTile : FVec F S8x128 .f32 :=
  k0_pay4 lanes 0#32 1#32 k (View.readAt (Elt F) arg2.view (Rect.unit (s := S8x1024) (k0_off1 k) S8x128.size (k0_off1_inb k)).toLoadRect X2)
/-- A stored tile's piece. -/
def piece (q : Fin 4) (h : Fin 2) : View.Piece (Elt F) S128x16384 .bf16 :=
  ⟨Rect.unit (s := S128x16384) (ooff k q h) S16x128.size (ooff_inb k q h), outTile (sclTile arg2 X2 k) (codeTile arg1 X1 k q) k q h⟩
end T

/-- The tiles of a trip, last first. -/
def order : List (Fin 4 × Fin 2) := [(3, 1), (3, 0), (2, 1), (2, 0), (1, 1), (1, 0), (0, 1), (0, 0)]
/-- They are all of them. -/
theorem order_all : ∀ x, x ∈ order := by decide

/-- The tiles a trip stores. -/
theorem trip_eq (𝒱 : Variants) (c : Dev nD) (bd : Option 𝒱.V) (i : grid0.Coords) (arg1 : Memref sig .tc .vmem S128x8192 .i8) (harg1 : arg1.IsWhole) (arg2 : Memref sig .tc .vmem S8x1024 .fp8e4m3) (harg2 : arg2.IsWhole) (arg3 : Memref sig .tc .vmem S128x16384 .bf16) (harg3 : arg3.IsWhole) (X_arg1 : BufTy.Contents (Elt F) arg1.view.ty) (X_arg2 : BufTy.Contents (Elt F) arg2.view.ty) (k : Fin k0_t1_loop.trips) :
    (trip_k0_t1 (F := F) 𝒱 c bd i arg1 harg1 arg2 harg2 arg3 harg3 lanes X_arg1 X_arg2 k).1
      = order.map (fun x => piece arg1 arg2 X_arg1 X_arg2 k x.1 x.2) := by
  unfold trip_k0_t1
  dsimp only
  sl_kernel_rfl

/-- A piece of the loop is some trip's, and every trip's pieces are there. -/
theorem pb_mem (𝒱 : Variants) (c : Dev nD) (bd : Option 𝒱.V) (i : grid0.Coords) (arg1 : Memref sig .tc .vmem S128x8192 .i8) (harg1 : arg1.IsWhole) (arg2 : Memref sig .tc .vmem S8x1024 .fp8e4m3) (harg2 : arg2.IsWhole) (arg3 : Memref sig .tc .vmem S128x16384 .bf16) (harg3 : arg3.IsWhole) (X_arg1 : BufTy.Contents (Elt F) arg1.view.ty) (X_arg2 : BufTy.Contents (Elt F) arg2.view.ty) (n : ℕ) (hn : n ≤ k0_t1_loop.trips) :
    (∀ p ∈ pb_k0_t1 (F := F) 𝒱 c bd i arg1 harg1 arg2 harg2 arg3 harg3 lanes X_arg1 X_arg2 n, ∃ k q h, p = piece arg1 arg2 X_arg1 X_arg2 k q h)
    ∧ (∀ (k : Fin k0_t1_loop.trips) q h, k.val < n → piece arg1 arg2 X_arg1 X_arg2 k q h ∈ pb_k0_t1 (F := F) 𝒱 c bd i arg1 harg1 arg2 harg2 arg3 harg3 lanes X_arg1 X_arg2 n) := by
  induction n with
  | zero => exact ⟨fun p hp => absurd hp List.not_mem_nil, fun k _ _ h => absurd h (Nat.not_lt_zero _)⟩
  | succ n ih =>
    obtain ⟨ih1, ih2⟩ := ih (Nat.le_of_succ_le hn)
    have h2 := pb_k0_t1_succ (F := F) 𝒱 c bd i arg1 harg1 arg2 harg2 arg3 harg3 lanes X_arg1 X_arg2 ⟨n, hn⟩
    have hL : tripL_k0_t1 (F := F) 𝒱 c bd i arg1 harg1 arg2 harg2 arg3 harg3 lanes X_arg1 X_arg2 ⟨n, hn⟩
        = order.map (fun x => piece arg1 arg2 X_arg1 X_arg2 ⟨n, hn⟩ x.1 x.2) :=
      trip_eq (F := F) 𝒱 c bd i arg1 harg1 arg2 harg2 arg3 harg3 X_arg1 X_arg2 ⟨n, hn⟩
    dsimp only at h2
    rw [hL] at h2
    rw [h2]
    constructor
    · intro p hp
      rcases List.mem_append.mp hp with hp | hp
      · obtain ⟨q, _, rfl⟩ := List.mem_map.mp hp
        exact ⟨_, q.1, q.2, rfl⟩
      · exact ih1 p hp
    · intro k q h hk
      refine List.mem_append.mpr ?_
      rcases Nat.lt_or_ge k.val n with h' | h'
      · exact Or.inr (ih2 k q h h')
      · have : k = ⟨n, hn⟩ := Fin.ext (by have := hk; show k.val = n; omega)
        subst this
        exact Or.inl (List.mem_map.mpr ⟨(q, h), order_all _, rfl⟩)

/-- The run's pieces are the loop's. -/
theorem run_eq (c : Dev nD) (i : grid0.Coords) (arg1 : Memref sig .tc .vmem S128x8192 .i8) (harg1 : arg1.IsWhole) (arg2 : Memref sig .tc .vmem S8x1024 .fp8e4m3) (harg2 : arg2.IsWhole) (arg3 : Memref sig .tc .vmem S128x16384 .bf16) (harg3 : arg3.IsWhole)
    (x0 : Vec F S128x8192 .i8) (x1 : Vec F S8x1024 .fp8e4m3) :
    (kernelRun0_A (F := F) c i arg1 harg1 arg2 harg2 arg3 harg3 x0 x1).1
      = pb_k0_t1 (F := F) Variants.none c none i arg1 harg1 arg2 harg2 arg3 harg3 lanes (harg1.unread x0) (harg2.unread x1) k0_t1_loop.trips := by
  unfold kernelRun0_A
  dsimp only
  first
    | rfl
    | exact List.append_nil _

end Cert.WdecIdeal.Hand
end
-- ==== Proof.WdecValue.lean ====
module

public import proofs.«01_k».proof.Proof.WdecPieces
public import Idealize.ShloMosaic.Lib.Pipeline.ValueKit
public import Idealize.ShloMosaic.Lib.Claim
public import Idealize.ShloMosaic.Lib.WholeRead

@[expose] public section
set_option maxRecDepth 16384

/-! The decoded weights as the kernel leaves them. -/

noncomputable section
namespace Cert.WdecIdeal.Hand
open Idealize.ShloMosaic Idealize.ShloMosaic.TcCoe Idealize.ShloMosaic.Tactic Cert.WdecIdeal Cert.WdecIdeal.Gen Cert.WdecSpec
open Idealize.SL Idealize.SL.Sem
open Idealize.ShloMosaic.Pipeline (Dat)

/-- The index operand of a lane gather (negative indices wrapped). -/
def wrap (i : IVec S8x128 32) : IVec S8x128 32 :=
  shapeCast S8x128 (shapeCast S8x128x1
    (select (cmpi .slt i (broadcast S8x128 0#32)) (addi i (broadcast S8x128 128#32)) i)
    shapeCasts_S8x128_S8x128x1) shapeCasts_S8x128x1_S8x128
/-- A lane gather whose index is in range reads that lane. -/
theorem gather_at {α : Type} (x : S8x128.Idx → α) (i : IVec S8x128 32) (r : Fin 8) (l n : Fin 128)
    (h : i (ix2 r l) = BitVec.ofNat 32 n.val) : dynamicGather 1 x (wrap i) (ix2 r l) = x (ix2 r n) := by
  have key : ∀ n : Fin 128, (Scalar.select (IntOp.cmpi .slt (BitVec.ofNat 32 n.val) 0#32)
      (IntOp.addi (BitVec.ofNat 32 n.val) 128#32) (BitVec.ofNat 32 n.val)).toNat % 128 = n.val := by decide +kernel
  pointwise [wrap]
  refine congrArg (fun k => x (ix2 r k)) (Fin.ext ?_)
  show (Scalar.select (IntOp.cmpi .slt (i (ix2 r l)) 0#32) (IntOp.addi (i (ix2 r l)) 128#32) (i (ix2 r l))).toNat % 128 = n.val
  rw [h]; exact key n

/-- The lane a code is gathered from. -/
theorem gidx_at (k : Fin k0_t1_loop.trips) (a : Fin 8) (l : Fin 128) :
    gidx k (ix2 a l) = BitVec.ofNat 32 (l.val / 2 + 64 * (k.val % 2)) := by
  have key : ∀ (k : Fin k0_t1_loop.trips), IntOp.muli 64#32 (IntOp.andi (IntOp.addi 0#32 (IntOp.muli (Scf.iv 0#32 1#32 k) 1#32)) 1#32) = BitVec.ofNat 32 (64 * (k.val % 2)) := by
    decide +kernel
  have key2 : ∀ (l : Fin 128) (b : Fin 2), IntOp.addi (IntOp.shrui .vector (BitVec.ofNat 32 l.val) 1#32) (BitVec.ofNat 32 (64 * b.val)) = BitVec.ofNat 32 (l.val / 2 + 64 * b.val) := by
    decide +kernel
  have e := key2 l ⟨k.val % 2, Nat.mod_lt _ (by decide)⟩
  have e0 := key k
  unfold gidx k0_pay3
  pointwise [lanes]
  refine Eq.trans ?_ e
  exact congrArg (IntOp.addi (IntOp.shrui .vector (BitVec.ofNat 32 l.val) 1#32)) e0
/-- The shift of a lane. -/
theorem shift_at (a : Fin 8) (l : Fin 128) : k0_pay1 (ix2 a l) = BitVec.ofNat 32 (4 * (l.val % 2)) := by
  have key : ∀ l : Fin 128, IntOp.muli (IntOp.andi (BitVec.ofNat 32 l.val) 1#32) 4#32 = BitVec.ofNat 32 (4 * (l.val % 2)) := by
    decide +kernel
  pointwise [k0_pay1]
  exact key l
/-- A gathered scale, with the sixty-four it carries. -/
theorem pay4_at (k : Fin k0_t1_loop.trips) (s : FVec Ideal S8x128 .fp8e4m3) (a : Fin 8) (l : Fin 128) :
    (k0_pay4 (F := Ideal) lanes 0#32 1#32 k s (ix2 a l) : EReal)
      = (s (ix2 a ⟨l.val / 16 + 8 * (k.val % 16), by omega⟩) * ((64 : ℝ) : EReal) : EReal) := by
  have c64 : Ideal.ofBits .f32 0x42800000#32 = ((64 : ℝ) : EReal) := by
    simp [Ideal.ofBits, Ideal.ieee, -EReal.coe_mul]; norm_num
  have key : ∀ (k : Fin k0_t1_loop.trips), IntOp.muli 8#32 (IntOp.andi (IntOp.addi 0#32 (IntOp.muli (Scf.iv 0#32 1#32 k) 1#32)) 15#32) = BitVec.ofNat 32 (8 * (k.val % 16)) := by
    decide +kernel
  have key2 : ∀ (l : Fin 128) (b : Fin 16), IntOp.addi (IntOp.shrui .vector (BitVec.ofNat 32 l.val) 4#32) (BitVec.ofNat 32 (8 * b.val)) = BitVec.ofNat 32 (l.val / 16 + 8 * b.val) := by
    decide +kernel
  have e := key2 l ⟨k.val % 16, Nat.mod_lt _ (by decide)⟩
  have e0 := key k
  unfold k0_pay4
  refine (gather_at _ _ a l ⟨l.val / 16 + 8 * (k.val % 16), by omega⟩ ?_).trans ?_
  · pointwise [lanes]
    exact (congrArg (IntOp.addi (IntOp.shrui .vector (BitVec.ofNat 32 l.val) 4#32)) e0).trans e
  · pointwise
    exact congrArg (fun z : EReal => (s _ * z : EReal)) c64

/-- A decoded element: its code's value over sixty-four. -/
theorem pay21_at (k : Fin k0_t1_loop.trips) (w : IVec S32x128 8) (p : Fin 32) (l : Fin 128) :
    (k0_pay21 (F := Ideal) k0_pay1 (gidx k) w (ix2 p l) : EReal)
      = ((nv (nib (w (ix2 p ⟨l.val / 2 + 64 * (k.val % 2), by omega⟩)) (l.val % 2)) * (1 / 64) : ℝ) : EReal) := by
  refine Eq.trans ?_ (wide_val _ ⟨l.val % 2, Nat.mod_lt _ (by decide)⟩)
  unfold k0_pay21
  show Ideal.ofBits .fp8e4m3 (bitcast S32x128 8 _ bitcasts_S8x128_w32_S32x128_w8 (ix2 p l)) = _
  refine congrArg (Ideal.ofBits .fp8e4m3) (BitVec.eq_of_getLsbD_eq fun q hq => ?_)
  rw [bitcast_getLsbD _ _ _ q hq (by decide)]
  have hrow : S32x128.row (ix2 p l) = p.val := rfl
  have hidx : ∀ hp, bitcasts_S8x128_w32_S32x128_w8.srcIdx (ix2 p l) ((S32x128.row (ix2 p l) * 8 + q) / 32) hp
      = (ix2 ⟨p.val / 4, by omega⟩ l : S8x128.Idx) := fun hp => by
    funext d
    match d with
    | ⟨0, _⟩ =>
      exact Fin.ext ((bitcasts_S8x128_w32_S32x128_w8.srcIdx_row _ _ _ ⟨0, Nat.zero_lt_two⟩ rfl).trans
        (by rw [hrow]; show _ = p.val / 4; omega))
    | ⟨1, _⟩ => exact Fin.ext (bitcasts_S8x128_w32_S32x128_w8.srcIdx_other _ _ _ ⟨1, Nat.one_lt_two⟩ (by show ¬ 1 + 2 = 2; omega))
  rw [hidx, hrow, show (p.val * 8 + q) % 32 = 8 * (p.val % 4) + q by omega]
  have hg := gather_at (bitcast S8x128 32 w bitcasts_S32x128_w8_S8x128_w32) (gidx k) ⟨p.val / 4, by omega⟩ l
    ⟨l.val / 2 + 64 * (k.val % 2), by omega⟩ (gidx_at k _ l)
  have hb : ∀ q < 8, (bitcast S8x128 32 w bitcasts_S32x128_w8_S8x128_w32 (ix2 ⟨p.val / 4, by omega⟩ ⟨l.val / 2 + 64 * (k.val % 2), by omega⟩)).getLsbD (8 * (p.val % 4) + q)
      = (w (ix2 p ⟨l.val / 2 + 64 * (k.val % 2), by omega⟩)).getLsbD q := fun q hq => by
    refine (bitcast_8_32_getLsbD_ix2 (R := 32) (r := 8) (n := 128) w _ _ _ (8 * (p.val % 4) + q) (by omega) p
      (by show p.val = 4 * (p.val / 4) + (8 * (p.val % 4) + q) / 8; omega)).trans ?_
    rw [show (8 * (p.val % 4) + q) % 8 = q by omega]
    rfl
  have hs : ∀ (b : Fin 2) (x : BitVec 32), IntOp.ori (IntOp.shli .vector (IntOp.andi (IntOp.shrui .vector x (BitVec.ofNat 32 (4 * b.val))) 117901063#32) 2#32)
      (IntOp.shli .vector (IntOp.andi (IntOp.shrui .vector x (BitVec.ofNat 32 (4 * b.val))) 134744072#32) 4#32)
      = ((x >>> (4 * b.val)) &&& 117901063#32) <<< 2 ||| ((x >>> (4 * b.val)) &&& 134744072#32) <<< 4 := fun b x => by
    match b with
    | 0 => rfl
    | 1 => rfl
  refine Eq.trans (congrArg (fun z : BitVec 32 => z.getLsbD (8 * (p.val % 4) + q)) ?_)
    (word_byte _ _ ⟨p.val % 4, by omega⟩ ⟨l.val % 2, by omega⟩ hb q hq)
  refine Eq.trans ?_ (hs ⟨l.val % 2, by omega⟩ _)
  show IntOp.ori (IntOp.shli .vector (IntOp.andi (IntOp.shrui .vector (dynamicGather 1 _ (wrap (gidx k)) _) (k0_pay1 _)) 117901063#32) 2#32)
      (IntOp.shli .vector (IntOp.andi (IntOp.shrui .vector (dynamicGather 1 _ (wrap (gidx k)) _) (k0_pay1 _)) 134744072#32) 4#32) = _
  rw [hg, shift_at]

/-- An element of a stored tile: the code's value times its block's scale. -/
theorem outTile_at (k : Fin k0_t1_loop.trips) (s : FVec Ideal S8x128 .fp8e4m3) (w : IVec S32x128 8) (q : Fin 4) (h : Fin 2) (r : Fin 16) (l : Fin 128) :
    (outTile (F := Ideal) (k0_pay4 (F := Ideal) lanes 0#32 1#32 k s) w k q h (ix2 r l) : EReal)
      = (((nv (nib (w (ix2 ⟨16 * h.val + r.val, by omega⟩ ⟨l.val / 2 + 64 * (k.val % 2), by omega⟩)) (l.val % 2)) : ℝ) : EReal)
        * s (ix2 ⟨2 * q.val + h.val, by omega⟩ ⟨l.val / 16 + 8 * (k.val % 16), by omega⟩) : EReal) := by
  rw [← rescale, ← pay21_at k w ⟨16 * h.val + r.val, by omega⟩ l, ← pay4_at k s ⟨2 * q.val + h.val, by omega⟩ l]
  generalize k0_pay4 (F := Ideal) lanes 0#32 1#32 k s = v
  unfold outTile
  generalize k0_pay21 (F := Ideal) k0_pay1 (gidx k) w = x
  have e1 : halfRows x h (ix2 r l) = x (ix2 ⟨16 * h.val + r.val, by omega⟩ l) := by
    match h with
    | 0 => pointwise [halfRows]
    | 1 => pointwise [halfRows]
  have e2 : sclRow v q h (ix2 0 l) = v (ix2 ⟨2 * q.val + h.val, by omega⟩ l) := by
    match q, h with
    | 0, 0 => pointwise [sclRow]
    | 0, 1 => pointwise [sclRow]
    | 1, 0 => pointwise [sclRow]
    | 1, 1 => pointwise [sclRow]
    | 2, 0 => pointwise [sclRow]
    | 2, 1 => pointwise [sclRow]
    | 3, 0 => pointwise [sclRow]
    | 3, 1 => pointwise [sclRow]
  rw [← e1, ← e2]
  generalize halfRows x h = y
  generalize sclRow v q h = z
  pointwise

/-- An index of a rectangle of two dimensions. -/
theorem unit_idx {a b : ℕ} (off size : Fin 2 → ℕ) (inb : ∀ d, off d + size d ≤ (⟨2, ![a, b]⟩ : Shape).size d)
    (x : (Rect.unit (s := ⟨2, ![a, b]⟩) off size inb).shape.Idx) {r c : ℕ} (h : off = ![r, c]) (hr : r + (x 0).val < a) (hc : c + (x 1).val < b) :
    (Rect.unit (s := ⟨2, ![a, b]⟩) off size inb).emb x = ix2 ⟨r + (x 0).val, hr⟩ ⟨c + (x 1).val, hc⟩ := by
  subst h
  funext d
  match d with
  | 0 => exact Fin.ext (by show r + 1 * (x 0).val = r + (x 0).val; omega)
  | 1 => exact Fin.ext (by show c + 1 * (x 1).val = c + (x 1).val; omega)

/-- What the kernel makes of a block of codes and its scales. -/
def blkOut (x0 : IVec S128x8192 8) (x1 : FVec Ideal S8x1024 .fp8e4m3) : FVec Ideal S128x16384 .bf16 := fun y =>
  (((nv (nib (x0 (ix2 (y 0) ⟨(y 1).val / 2, by have : (y 1).val < 16384 := (y 1).isLt; omega⟩)) ((y 1).val % 2)) : ℝ) : EReal)
    * x1 (ix2 ⟨(y 0).val / 16, by have : (y 0).val < 128 := (y 0).isLt; omega⟩ ⟨(y 1).val / 16, by have : (y 1).val < 16384 := (y 1).isLt; omega⟩) : EReal)

/-- An element of a codes tile. -/
theorem codeTile_at (arg1 : Memref sig .tc .vmem S128x8192 .i8) (harg1 : arg1.IsWhole) (x0 : Vec Ideal S128x8192 .i8) (k : Fin k0_t1_loop.trips)
    (q : Fin 4) (p : Fin 32) (l : Fin 128) (hl : 128 * (k.val / 2) + l.val < 8192) :
    codeTile (F := Ideal) arg1 (harg1.unread x0) k q (ix2 p l) = x0 (ix2 ⟨32 * q.val + p.val, by omega⟩ ⟨128 * (k.val / 2) + l.val, hl⟩) := by
  show View.readAt _ _ _ _ _ = _
  rw [harg1.readAt_unread]
  exact congrArg x0 (unit_idx _ _ _ _ (woff_eq k q) _ _)

/-- What the loop leaves in the block. -/
theorem read_out (c : Dev nD) (i : grid0.Coords) (arg1 : Memref sig .tc .vmem S128x8192 .i8) (harg1 : arg1.IsWhole) (arg2 : Memref sig .tc .vmem S8x1024 .fp8e4m3) (harg2 : arg2.IsWhole) (arg3 : Memref sig .tc .vmem S128x16384 .bf16) (harg3 : arg3.IsWhole)
    (x0 : Vec Ideal S128x8192 .i8) (x1 : Vec Ideal S8x1024 .fp8e4m3) :
    out0_A_2 (F := Ideal) c i arg1 harg1 arg2 harg2 arg3 harg3 x0 x1 = blkOut x0 x1 := by
  unfold out0_A_2
  rw [run_eq]
  obtain ⟨h1, h2⟩ := pb_mem (F := Ideal) Variants.none c none i arg1 harg1 arg2 harg2 arg3 harg3 (harg1.unread x0) (harg2.unread x1) k0_t1_loop.trips le_rfl
  generalize pb_k0_t1 (F := Ideal) Variants.none c none i arg1 harg1 arg2 harg2 arg3 harg3 lanes (harg1.unread x0) (harg2.unread x1) k0_t1_loop.trips = L at h1 h2
  funext y
  have y0 : (y 0).val < 128 := (y 0).isLt
  have y1 : (y 1).val < 16384 := (y 1).isLt
  refine View.read_writes_apply_of_pieces _ _ _ _ ?_ y ?_
  · intro p hp z
    obtain ⟨k, q, h, rfl⟩ := h1 p hp
    have hk : k.val < 128 := Nat.lt_of_lt_of_eq k.isLt trips1
    have z0 : (z 0).val < 16 := (z 0).isLt
    have z1 : (z 1).val < 128 := (z 1).isLt
    have E : (piece arg1 arg2 (harg1.unread x0) (harg2.unread x1) k q h).1.emb z
        = ix2 ⟨32 * q.val + 16 * h.val + (z 0).val, by omega⟩ ⟨128 * k.val + (z 1).val, by omega⟩ :=
      unit_idx _ _ (ooff_inb k q h) z (ooff_eq k q h) _ _
    refine Eq.trans ?_ (congrArg (blkOut x0 x1) E.symm)
    have hz : z = ix2 (⟨(z 0).val, z0⟩ : Fin 16) (⟨(z 1).val, z1⟩ : Fin 128) := by
      funext d
      match d with
      | 0 => rfl
      | 1 => rfl
    show outTile (F := Ideal) (sclTile arg2 (harg2.unread x1) k) (codeTile arg1 (harg1.unread x0) k q) k q h z = _
    refine (congrArg (outTile (F := Ideal) (sclTile arg2 (harg2.unread x1) k) (codeTile arg1 (harg1.unread x0) k q) k q h) hz).trans ?_
    refine (outTile_at k _ _ q h ⟨(z 0).val, z0⟩ ⟨(z 1).val, z1⟩).trans ?_
    rw [codeTile_at arg1 harg1 x0 k q _ _ (by show 128 * (k.val / 2) + ((z 1).val / 2 + 64 * (k.val % 2)) < 8192; omega), harg2.readAt_unread]
    unfold blkOut
    refine congrArg₂ (fun (a : ℝ) (b : EReal) => ((a : EReal) * b : EReal)) ?_ ?_
    · refine congrArg₂ (fun b n => nv (nib b n)) (congrArg x0 ?_) ?_
      · funext d
        match d with
        | 0 => exact Fin.ext (by show 32 * q.val + (16 * h.val + (z 0).val) = 32 * q.val + 16 * h.val + (z 0).val; omega)
        | 1 => exact Fin.ext (by show 128 * (k.val / 2) + ((z 1).val / 2 + 64 * (k.val % 2)) = (128 * k.val + (z 1).val) / 2; omega)
      · show (z 1).val % 2 = (128 * k.val + (z 1).val) % 2
        omega
    · refine congrArg x1 ((unit_idx _ _ _ _ (soff_eq k)
        (by show 0 + (2 * q.val + h.val) < 8; omega) (by show 128 * (k.val / 16) + ((z 1).val / 16 + 8 * (k.val % 16)) < 1024; omega)).trans ?_)
      funext d
      match d with
      | 0 => exact Fin.ext (by show 0 + (2 * q.val + h.val) = (32 * q.val + 16 * h.val + (z 0).val) / 16; omega)
      | 1 => exact Fin.ext (by show 128 * (k.val / 16) + ((z 1).val / 16 + 8 * (k.val % 16)) = (128 * k.val + (z 1).val) / 16; omega)
  · have hk : (y 1).val / 128 < k0_t1_loop.trips := by rw [trips1]; omega
    refine ⟨_, h2 ⟨(y 1).val / 128, hk⟩ ⟨(y 0).val / 32, by omega⟩ ⟨(y 0).val % 32 / 16, by omega⟩ hk, ?_⟩
    refine (Rect.mem_set_unit (inb := ooff_inb _ _ _)).mpr fun d => ?_
    rw [ooff_eq]
    match d with
    | 0 =>
      show 32 * ((y 0).val / 32) + 16 * ((y 0).val % 32 / 16) ≤ (y 0).val ∧ (y 0).val < 32 * ((y 0).val / 32) + 16 * ((y 0).val % 32 / 16) + 16
      omega
    | 1 =>
      show 128 * ((y 1).val / 128) ≤ (y 1).val ∧ (y 1).val < 128 * ((y 1).val / 128) + 128
      omega

variable (m : (ℓ : Loc nD τ sig) → Buf (Elt Ideal) ℓ)

/-- The codes. -/
abbrev aW (c : Dev nD) : IVec S1024x8192 8 := m ((c.tc : Thread nD τ).loc main_arg0)
/-- The scales. -/
abbrev aSc (c : Dev nD) : FVec Ideal S64x1024 .fp8e4m3 := m ((c.tc : Thread nD τ).loc main_arg1)

/-- Every window's block index at a point. -/
theorem idx : ∀ t : Fin cfg0.N, win0_0.index t = ![t.val, 0] ∧ win0_1.index t = ![t.val, 0] ∧ win0_2.index t = ![t.val, 0] :=
  (by decide +kernel : ∀ t : Fin grid0.N, _)
/-- An element of the codes' block. -/
theorem iblk0_at (c : Dev nD) (t : Fin cfg0.N) (ht : t.val < 8) (R : Fin 128) (k : Fin 8192) :
    (iblk m c 0 t : Vec Ideal S128x8192 .i8) (ix2 R k) = aW m c (ix2 ⟨128 * t.val + R.val, by omega⟩ k) := by
  blk_ext [iblk, V, idx t]
/-- An element of the scales' block. -/
theorem iblk1_at (c : Dev nD) (t : Fin cfg0.N) (ht : t.val < 8) (R : Fin 8) (k : Fin 1024) :
    (iblk m c 1 t : Vec Ideal S8x1024 .fp8e4m3) (ix2 R k) = aSc m c (ix2 ⟨8 * t.val + R.val, by omega⟩ k) := by
  blk_ext [iblk, V, idx t]

/-- An element of the block a point leaves. -/
theorem blkOut_at (c : Dev nD) (t : Fin cfg0.N) (ht : t.val < 8) (R : Fin 128) (J : Fin 16384) :
    blkOut (iblk m c 0 t) (iblk m c 1 t) (ix2 R J) = weights (aW m c) (aSc m c) (ix2 ⟨128 * t.val + R.val, by omega⟩ J) := by
  refine congrArg₂ (fun (a : ℝ) (b : EReal) => ((a : EReal) * b : EReal)) (congrArg (fun b => nv (nib b (J.val % 2))) ?_) ?_
  · refine (iblk0_at m c t ht R ⟨J.val / 2, by omega⟩).trans (congrArg (aW m c) (funext fun d => ?_))
    match d with
    | 0 => exact Fin.ext (by show 128 * t.val + R.val = (128 * t.val + R.val) % 1024; omega)
    | 1 => exact Fin.ext (by show J.val / 2 = J.val / 2 % 8192; omega)
  · refine (iblk1_at m c t ht ⟨R.val / 16, by omega⟩ ⟨J.val / 16, by omega⟩).trans (congrArg (aSc m c) (funext fun d => ?_))
    match d with
    | 0 => exact Fin.ext (by show 8 * t.val + R.val / 16 = (128 * t.val + R.val) / 16 % 64; omega)
    | 1 => exact Fin.ext (by show J.val / 16 = J.val / 16 % 1024; omega)

/-- The decoded weights' array. -/
theorem final2 (c : Dev nD) : (dats m 0 c).arrAt 2 (cfgs 0).N = weights (aW m c) (aSc m c) := by
  refine (dats m 0 c).arrAt_eq_of_covers 2 _ (by decide +kernel) fun t hf y => ?_
  have ht : t.val < 8 := Nat.lt_of_lt_of_eq t.isLt N_0
  blk_simp
  rw [after0_2]
  unfold outsAt0
  rw [read_out]
  refine (congrArg (blkOut (iblk m c 0 t) (iblk m c 1 t)) ?_).trans ((blkOut_at m c t ht (y 0) (y 1)).trans (congrArg _ ?_))
  · blk_ext
  · blk_ext [idx t]

/-- What the kernel leaves: the decoded weights, and the argument arrays unchanged. -/
theorem value (ρ : Dev nD → PrngReg) : θ_run (defs (F := Ideal)) (onTc (τ := τ) (main (F := Ideal))) ⟨m, fun _ => 0, ρ⟩ (fun r => ∀ c : Dev nD,
      r.2.mem ((c.tc : Thread nD τ).loc main_v0) = weights (aW m c) (aSc m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ?_) (Cert.WdecIdeal.Value.run_blocks m ρ)
  obtain ⟨h0, hr⟩ := h c
  exact ⟨h0.trans (final2 m c), hr⟩

end Cert.WdecIdeal.Hand
end
-- ==== Proof.WdecRef.lean ====
module

public import proofs.«01_k».proof.Proof.Gen.WdecReferenceIdeal.Frame
public import proofs.«01_k».proof.Proof.WdecSpec
public import Idealize.ShloMosaic.Lib.Pipeline.ValueKit
public import Idealize.ShloMosaic.Lib.Claim
public import Idealize.ShloMosaic.Lib.StableHlo.RunHlo
public import Idealize.ShloMosaic.Lib.StableHlo.RunRead

@[expose] public section
set_option maxRecDepth 16384

/-! The decoded weights as the reference leaves them. -/

noncomputable section
namespace Cert.WdecReferenceIdeal.Hand
open Idealize.ShloMosaic Idealize.ShloMosaic.TcCoe Idealize.ShloMosaic.Tactic Cert.WdecReferenceIdeal Cert.WdecReferenceIdeal.Gen Cert.WdecSpec
open Idealize.SL Idealize.SL.Sem
open Idealize.ShloMosaic.Pipeline (Dat)

variable (m : (ℓ : Loc nD τ sig) → Buf (Elt Ideal) ℓ)

/-- The codes. -/
abbrev aW (c : Dev nD) : IVec S1024x8192 8 := m ((c.tc : Thread nD τ).loc main_arg0)
/-- The scales. -/
abbrev aSc (c : Dev nD) : FVec Ideal S64x1024 .fp8e4m3 := m ((c.tc : Thread nD τ).loc main_arg1)

/-- A constant on every element. -/
def kI (b : BitVec 32) : IVec S1024x16384 32 := broadcastInDim S1024x16384 ![] bcast_S_S1024x16384 (constantI S_ 32 b)
/-- A floating constant on every element. -/
def kF (b : BitVec 32) : FVec Ideal S1024x16384 .f32 := broadcastInDim S1024x16384 ![] bcast_S_S1024x16384 (constant S_ .f32 b)
/-- The codes, one to an element. -/
def codes (w : IVec S1024x8192 8) : IVec S1024x16384 32 :=
  shapeCast S1024x16384 (concatenate S1024x8192x2 2
    [⟨S1024x8192x1, broadcastInDim S1024x8192x1 ![0, 1] bcast_S1024x8192_S1024x8192x1_0_1
        (andi (extui 32 w natLt_8_32) (broadcastInDim S1024x8192 ![] bcast_S_S1024x8192 (constantI S_ 32 15#32)))⟩,
     ⟨S1024x8192x1, broadcastInDim S1024x8192x1 ![0, 1] bcast_S1024x8192_S1024x8192x1_0_1
        (Host.shrsi (extui 32 w natLt_8_32) (broadcastInDim S1024x8192 ![] bcast_S_S1024x8192 (constantI S_ 32 4#32)))⟩]
    concatenates_S1024x8192x1_S1024x8192x1_S1024x8192x2_d2) shapeCasts_S1024x8192x2_S1024x16384
/-- The mantissa bit. -/
def man (n : IVec S1024x16384 32) : FVec Ideal S1024x16384 .f32 := sitofp .f32 (andi n (kI 1#32))
/-- The exponent bits. -/
def expo (n : IVec S1024x16384 32) : IVec S1024x16384 32 := andi (Host.shrsi n (kI 1#32)) (kI 3#32)
/-- The magnitude. -/
def mag (n : IVec S1024x16384 32) : FVec Ideal S1024x16384 .f32 :=
  select (cmpi .eq (expo n) (kI 0#32)) (mulf (kF 0x3F000000#32) (man n))
    (mulf (addf (kF 0x3F800000#32) (mulf (kF 0x3F000000#32) (man n)))
      (select (cmpi .eq (expo n) (kI 1#32)) (kF 0x3F800000#32)
        (select (cmpi .eq (expo n) (kI 2#32)) (kF 0x40000000#32) (kF 0x40800000#32))))
/-- The signed value. -/
def sval (n : IVec S1024x16384 32) : FVec Ideal S1024x16384 .bf16 :=
  truncf .bf16 (select (cmpi .eq (andi (Host.shrsi n (kI 3#32)) (kI 1#32)) (kI 1#32)) (Host.negf (mag n)) (mag n)) bitsLt_bf16_f32
/-- The decoded weights from the values and the widened scales. -/
def scaled (v : FVec Ideal S1024x16384 .bf16) (s : FVec Ideal S64x1024 .bf16) : FVec Ideal S1024x16384 .bf16 :=
  shapeCast S1024x16384 (mulf (shapeCast S64x16x1024x16 v shapeCasts_S1024x16384_S64x16x1024x16)
    (broadcastInDim S64x16x1024x16 ![0, 1, 2, 3] bcast_S64x1x1024x1_S64x16x1024x16_0_1_2_3
      (broadcastInDim S64x1x1024x1 ![0, 2] bcast_S64x1024_S64x1x1024x1_0_2 s))) shapeCasts_S64x16x1024x16_S1024x16384

/-- A code, by its byte. -/
theorem codes_at (w : IVec S1024x8192 8) (R : Fin 1024) (C : Fin 16384) :
    codes w (ix2 R C) = BitVec.ofNat 32 (nib (w (ix2 R ⟨C.val / 2, by omega⟩)) (C.val % 2)) := by
  have k0 : ∀ b : BitVec 8, IntOp.andi (b.setWidth 32) 15#32 = BitVec.ofNat 32 (nib b 0) := by decide +kernel
  have k1 : ∀ b : BitVec 8, IntOp.shrsi ArithUnit.host (b.setWidth 32) 4#32 = BitVec.ofNat 32 (nib b 1) := by decide +kernel
  pointwise [codes]
  rcases Nat.mod_two_eq_zero_or_one C.val with e | e
  · rw [dif_pos (by omega), k0]
    exact congrArg (fun h => BitVec.ofNat 32 (nib _ h)) e.symm
  · rw [dif_neg (by omega), k1]
    exact congrArg (fun h => BitVec.ofNat 32 (nib _ h)) e.symm

/-- A value, by its code. -/
theorem sval_at (x : IVec S1024x16384 32) (R : Fin 1024) (C : Fin 16384) (n : ℕ) (hn : n < 16) (h : x (ix2 R C) = BitVec.ofNat 32 n) :
    (sval x (ix2 R C) : EReal) = ((nv n : ℝ) : EReal) := by
  have c2 : Ideal.ofBits .f32 0x40000000#32 = ((2 : ℝ) : EReal) := by
    simp [Ideal.ofBits, Ideal.ieee, -EReal.coe_mul]; norm_num
  have c4 : Ideal.ofBits .f32 0x40800000#32 = ((4 : ℝ) : EReal) := by
    simp [Ideal.ofBits, Ideal.ieee, -EReal.coe_mul]; norm_num
  have ch : Ideal.ofBits .f32 0x3F000000#32 = ((1 / 2 : ℝ) : EReal) := by
    simp [Ideal.ofBits, Ideal.ieee, -EReal.coe_mul]; norm_num
  pointwise [sval, mag, man, expo, kI, kF]
  rw [h, c2, c4, ch]
  clear h c2 c4 ch
  have si : ∀ b : BitVec 32, FloatOps.sitofp (F := Ideal) FTy.f32 b = ((b.toInt : ℝ) : EReal) := fun _ => rfl
  rw [si]
  interval_cases n <;> simp [Scalar.select, IntOp.cmpi, IntOp.andi, IntOp.shrsi, nv, mg, -EReal.coe_mul]
  all_goals (rw [← EReal.coe_one, ← EReal.coe_add]; try rw [← EReal.coe_mul])
  all_goals norm_num

/-- A decoded weight, by the value and the block's scale. -/
theorem scaled_at (v : FVec Ideal S1024x16384 .bf16) (s : FVec Ideal S64x1024 .bf16) (R : Fin 1024) (C : Fin 16384) :
    (scaled v s (ix2 R C) : EReal) = (v (ix2 R C) * s (ix2 ⟨R.val / 16, by omega⟩ ⟨C.val / 16, by omega⟩) : EReal) := by
  pointwise [scaled]

/-- The operations after the region compute the weights from the codes and the widened scales. -/
theorem tail (Z : Valuation τ sig (Elt Ideal)) :
    StableHlo.after ([hostOps1, hostOps1_1, hostOps1_2, hostOps1_3, hostOps1_4, hostOps1_5, hostOps1_6, hostOps1_7, hostOps1_8] : List (List (HloOp τ sig (Elt Ideal)))).flatten Z (Proc.devRef .tc main_v47)
    = scaled (sval (codes (Z (Proc.devRef .tc main_arg0)))) (Z (Proc.devRef .tc main_v0)) := by
  simp only [List.flatten_cons, List.flatten_nil, List.append_nil]
  after_reads_simp
  rfl

/-- What the region leaves, read by the operations after it. -/
abbrev left (c : Dev nD) : Valuation τ sig (Elt Ideal) :=
  Pipeline.withArrays spec0 c (V0 m c) (fun w => (dats m 0 c).arrAt w (cfgs 0).N)
/-- The windows have different arrays. -/
theorem hinj : Function.Injective (Pipeline.arrRef spec0) := by decide +kernel
/-- The window of the scales takes its whole array. -/
theorem idx : ∀ t : Fin cfg0.N, win0_0.index t = ![0, 0] := (by decide +kernel : ∀ t : Fin grid0.N, _)
/-- The widened scales are the scales. -/
theorem final1 (c : Dev nD) : (dats m 0 c).arrAt 1 (cfgs 0).N = (aSc m c : S64x1024.Idx → EReal) := by
  refine (dats m 0 c).arrAt_eq_of_after_last 1 t0_0 (by decide +kernel) _ fun j => ?_
  blk_simp
  rw [after0_1]
  frame_out
  show (iblk m c 0 t0_0 : Vec Ideal S64x1024 .fp8e4m3) j = aSc m c j
  blk_ext [iblk, V, idx t0_0]
/-- The scales' array, as the region leaves it. -/
theorem left_v0 (c : Dev nD) : left m c (Proc.devRef .tc main_v0) = (aSc m c : S64x1024.Idx → EReal) :=
  (Pipeline.withArrays_arr spec0 hinj c (V0 m c) (fun w => (dats m 0 c).arrAt w (cfgs 0).N) 1).trans (final1 m c)
/-- The region leaves the codes alone. -/
theorem left_arg0 (c : Dev nD) : left m c (Proc.devRef .tc main_arg0) = aW m c :=
  (Pipeline.withArrays_of_ne _ c (V0 m c) _ main_arg0 (by exact (by decide : ∀ w, Pipeline.arrRef spec0 w ≠ main_arg0))).trans (V_main_arg0 m c)

/-- A decoded weight. -/
theorem res_at (W : IVec S1024x8192 8) (S : FVec Ideal S64x1024 .fp8e4m3) (R : Fin 1024) (C : Fin 16384) :
    scaled (sval (codes W)) (S : S64x1024.Idx → EReal) (ix2 R C) = weights W S (ix2 R C) := by
  refine (scaled_at _ _ R C).trans ?_
  rw [sval_at _ R C _ (Nat.mod_lt _ (by decide)) (codes_at W R C)]
  refine congrArg₂ (fun (a : ℝ) (b : EReal) => ((a : EReal) * b : EReal)) (congrArg (fun b => nv (nib b (C.val % 2))) (congrArg W (funext fun d => ?_)))
    (congrArg S (funext fun d => ?_))
  · match d with
    | 0 => exact Fin.ext (by show R.val = R.val % 1024; omega)
    | 1 => exact Fin.ext (by show C.val / 2 = C.val / 2 % 8192; omega)
  · match d with
    | 0 => exact Fin.ext (by show R.val / 16 = R.val / 16 % 64; omega)
    | 1 => exact Fin.ext (by show C.val / 16 = C.val / 16 % 1024; omega)

/-- The decoded weights. -/
theorem res (c : Dev nD) : Pipeline.afterTail₀ cfgs (dats m) 0 (V0 m) [hostOps1, hostOps1_1, hostOps1_2, hostOps1_3, hostOps1_4, hostOps1_5, hostOps1_6, hostOps1_7, hostOps1_8] c main_v47
    = weights (aW m c) (aSc m c) := by
  refine (tail (left m c)).trans ?_
  rw [left_v0, left_arg0]
  funext i
  idx_vars i
  exact res_at _ _ _ _

/-- What the reference leaves: the decoded weights, and the argument arrays unchanged. -/
theorem value (ρ : Dev nD → PrngReg) : θ_run defs (onTc (τ := τ) (main (F := Ideal))) ⟨m, fun _ => 0, ρ⟩ (fun r => ∀ c : Dev nD,
      r.2.mem ((c.tc : Thread nD τ).loc main_v47) = weights (aW m c) (aSc m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m ρ
  · exact res m c
  · exact W_main_arg0 m (dats m) c

end Cert.WdecReferenceIdeal.Hand
end
-- ==== Proof.Trip.lean ====
module

public import proofs.«01_k».proof.Proof.Gen.KernelIdeal

@[expose] public section

/-! One trip of the quantiser loop as plain functions of the tiles it loads: every named stage below
is what the kernel computes, written once with the column group `c`, the row group `grp` and the half
`h` as parameters. -/

noncomputable section
namespace Cert.KernelIdeal.Hand
open Idealize.ShloMosaic Idealize.ShloMosaic.TcCoe Cert.KernelIdeal Cert.KernelIdeal.Gen

variable {F : FTy → Type} [FloatOps F]

/-- The lane number of each element of an 8-row tile. -/
def lane8 : IVec S8x128 32 := iota .tc S8x128 32 [1] iota_S8x128_d1_w32
/-- The lane number of each element of a 16-row tile. -/
def lane16 : IVec S16x128 32 := iota .tc S16x128 32 [1] iota_S16x128_d1_w32

/-- The index operand of an 8-row lane gather (negative indices wrapped). -/
def wrap8 (i : IVec S8x128 32) : IVec S8x128 32 :=
  shapeCast S8x128 (shapeCast S8x128x1
    (select (cmpi .slt i (broadcast S8x128 0#32)) (addi i (broadcast S8x128 128#32)) i)
    shapeCasts_S8x128_S8x128x1) shapeCasts_S8x128x1_S8x128
/-- The index operand of a 16-row lane gather (negative indices wrapped). -/
def wrap16 (i : IVec S16x128 32) : IVec S16x128 32 :=
  shapeCast S16x128 (shapeCast S16x128x1
    (select (cmpi .slt i (broadcast S16x128 0#32)) (addi i (broadcast S16x128 128#32)) i)
    shapeCasts_S16x128_S16x128x1) shapeCasts_S16x128x1_S16x128
/-- A lane gather of an 8-row tile. -/
def gat8 {α : Type} (x : S8x128.Idx → α) (i : IVec S8x128 32) : S8x128.Idx → α :=
  dynamicGather 1 x (wrap8 i)
/-- A lane gather of a 16-row tile. -/
def gat16 {α : Type} (x : S16x128.Idx → α) (i : IVec S16x128 32) : S16x128.Idx → α :=
  dynamicGather 1 x (wrap16 i)

/-- One merge of the tree: the lanes with bit `d` keep from `b`, the others from `a`, and the maximum
is taken with the partner lane's discarded value. -/
def mergeStep (d : BitVec 32) (a b : FVec F S16x128 .f32) : FVec F S16x128 .f32 :=
  maximumf (select (cmpi .ne (andi lane16 (broadcast S16x128 d)) (broadcast S16x128 0#32)) b a)
    (gat16 (select (cmpi .ne (andi lane16 (broadcast S16x128 d)) (broadcast S16x128 0#32)) a b)
      (xori lane16 (broadcast S16x128 d)))

/-- The magnitude tile `j` of the merge order (row group `j % 2`, column group `j / 2`). -/
def magTile (X : Fin 2 → Fin 8 → Vec F S16x128 .bf16) (grp : Fin 2) (c : Fin 8) : FVec F S16x128 .f32 :=
  absf (extf .f32 (X grp c) bitsLt_bf16_f32)

/-- The merge tree's first level over column group `c` (its partner is `c + 4`). -/
def mrg8 (X : Fin 2 → Fin 8 → Vec F S16x128 .bf16) (grp : Fin 2) (c c' : Fin 8) : FVec F S16x128 .f32 :=
  mergeStep 8#32 (magTile X grp c) (magTile X grp c')
/-- The second level. -/
def mrg4 (X : Fin 2 → Fin 8 → Vec F S16x128 .bf16) (grp : Fin 2) (c c' d d' : Fin 8) : FVec F S16x128 .f32 :=
  mergeStep 4#32 (mrg8 X grp c d) (mrg8 X grp c' d')
/-- The third level. -/
def mrg2 (X : Fin 2 → Fin 8 → Vec F S16x128 .bf16) (grp : Fin 2) : FVec F S16x128 .f32 :=
  mergeStep 2#32 (mrg4 X grp 0 2 4 6) (mrg4 X grp 1 3 5 7)
/-- The block maxima, one block per lane. -/
def amaxTile (X : Fin 2 → Fin 8 → Vec F S16x128 .bf16) : FVec F S16x128 .f32 :=
  mergeStep 1#32 (mrg2 X 0) (mrg2 X 1)

/-- The global scale on 16 rows. -/
def g16 (v15 : Vec F S8x128 .f32) : FVec F S16x128 .f32 :=
  concatenate S16x128 0 [⟨S8x128, (shapeCast S8x128 v15 shapeCasts_S8x128_S8x128 : FVec F S8x128 .f32)⟩,
    ⟨S8x128, (shapeCast S8x128 v15 shapeCasts_S8x128_S8x128 : FVec F S8x128 .f32)⟩] concatenates_S8x128_S8x128_S16x128_d0

/-- The block scales, as stored. -/
def sc8 (v15 : Vec F S8x128 .f32) (X : Fin 2 → Fin 8 → Vec F S16x128 .bf16) : FVec F S16x128 .fp8e4m3 :=
  truncf .fp8e4m3 (minimumf (broadcast S16x128 (Scalar.ofBits .f32 0x43E00000#32))
    (maximumf (broadcast S16x128 (Scalar.ofBits .f32 0x00000000#32))
      (divf (amaxTile X) (mulf (broadcast S16x128 (Scalar.ofBits .f32 0x40C00000#32)) (g16 v15)))))
    bitsLt_fp8e4m3_f32
/-- The block scales, widened. -/
def scf (v15 : Vec F S8x128 .f32) (X : Fin 2 → Fin 8 → Vec F S16x128 .bf16) : FVec F S16x128 .f32 :=
  extf .f32 (sc8 v15 X) bitsLt_fp8e4m3_f32
/-- The effective scale of each block. -/
def eff (v15 : Vec F S8x128 .f32) (X : Fin 2 → Fin 8 → Vec F S16x128 .bf16) : FVec F S16x128 .f32 :=
  mulf (scf v15 X) (g16 v15)
/-- Its reciprocal, zero where it is not positive. -/
def rinv (v15 : Vec F S8x128 .f32) (X : Fin 2 → Fin 8 → Vec F S16x128 .bf16) : FVec F S16x128 .f32 :=
  select (cmpf .ogt (eff v15 X) (broadcast S16x128 (Scalar.ofBits .f32 0x00000000#32)))
    (divf (broadcast S16x128 (Scalar.ofBits .f32 0x3F800000#32))
      (select (cmpf .ogt (eff v15 X) (broadcast S16x128 (Scalar.ofBits .f32 0x00000000#32))) (eff v15 X)
        (broadcast S16x128 (Scalar.ofBits .f32 0x3F800000#32))))
    (broadcast S16x128 (Scalar.ofBits .f32 0x00000000#32))

/-- The upper or lower 8 rows of a 16-row tile. -/
def half (h : Fin 2) (x : FVec F S16x128 .f32) : FVec F S8x128 .f32 :=
  match h with
  | 0 => extractStridedSlice S8x128 ![0, 0] x slices_S16x128_o0_0_S8x128
  | 1 => extractStridedSlice S8x128 ![8, 0] x slices_S16x128_o8_0_S8x128

/-- The lanes the scale rows are gathered from. -/
def sidx (grp : BitVec 32) : IVec S8x128 32 :=
  ori (ori (shli (andi lane8 (broadcast S8x128 7#32)) (broadcast S8x128 4#32))
    (shli (shrsi lane8 (broadcast S8x128 3#32)) (broadcast S8x128 1#32))) (broadcast S8x128 grp)
/-- Sixteen rows of gathered scales. -/
def srow (v15 : Vec F S8x128 .f32) (X : Fin 2 → Fin 8 → Vec F S16x128 .bf16) (grp : BitVec 32) : FVec F S16x128 .f32 :=
  concatenate S16x128 0 [⟨S8x128, gat8 (half 0 (scf v15 X)) (sidx grp)⟩, ⟨S8x128, gat8 (half 1 (scf v15 X)) (sidx grp)⟩]
    concatenates_S8x128_S8x128_S16x128_d0
/-- The scales tile stored. -/
def scalesTile (v15 : Vec F S8x128 .f32) (X : Fin 2 → Fin 8 → Vec F S16x128 .bf16) : FVec F S32x64 .fp8e4m3 :=
  truncf .fp8e4m3 (extractStridedSlice S32x64 ![0, 0]
    (concatenate S32x128 0 [⟨S16x128, srow v15 X 0#32⟩, ⟨S16x128, srow v15 X 1#32⟩] concatenates_S16x128_S16x128_S32x128_d0)
    slices_S32x128_o0_0_S32x64) bitsLt_fp8e4m3_f32

/-- The block lane an element's scale sits in. -/
def pidx (c2 grp : BitVec 32) : IVec S8x128 32 :=
  ori (ori (andi lane8 (broadcast S8x128 4294967280#32)) (broadcast S8x128 c2)) (broadcast S8x128 grp)

/-- The constants of the quantiser, on 8 rows. -/
def k8 (b : BitVec 32) : FVec F S8x128 .f32 := broadcast S8x128 (Scalar.ofBits .f32 b)

/-- The scaled value. -/
def qv (x : Vec F S8x128 .bf16) (r : FVec F S8x128 .f32) : FVec F S8x128 .f32 := mulf (extf .f32 x bitsLt_bf16_f32) r
/-- Its magnitude, saturated. -/
def qa (v : FVec F S8x128 .f32) : FVec F S8x128 .f32 := minimumf (absf v) (k8 0x40C00000#32)
/-- A choice by the magnitude's segment. -/
def seg (a : FVec F S8x128 .f32) (l m h : BitVec 32) : FVec F S8x128 .f32 :=
  select (cmpf .olt a (k8 0x40000000#32)) (k8 l) (select (cmpf .olt a (k8 0x40800000#32)) (k8 m) (k8 h))
/-- The magnitude in steps. -/
def qw (a : FVec F S8x128 .f32) : FVec F S8x128 .f32 := mulf a (seg a 0x40000000#32 0x3F800000#32 0x3F000000#32)
/-- The random number of an element. -/
def qu (b : Vec F S8x128 .i32) : FVec F S8x128 .f32 :=
  mulf (sitofp .f32 (shrui b (broadcast S8x128 8#32))) (k8 0x33800000#32)
/-- The stochastically rounded number of steps. -/
def qi (a : FVec F S8x128 .f32) (b : Vec F S8x128 .i32) : FVec F S8x128 .f32 :=
  select (cmpf .olt (qu b) (subf (qw a) (floor (qw a)))) (addf (floor (qw a)) (k8 0x3F800000#32)) (floor (qw a))
/-- Whether the sign bit is set. -/
def qneg (v : FVec F S8x128 .f32) (b : Vec F S8x128 .i32) : IVec S8x128 1 :=
  andi (cmpf .olt v (k8 0x00000000#32)) (cmpf .ogt (qi (qa v) b) (k8 0x00000000#32))
/-- The magnitude code. -/
def qmag (v : FVec F S8x128 .f32) (b : Vec F S8x128 .i32) : IVec S8x128 32 :=
  fptosi 32 (addf (qi (qa v) b) (seg (qa v) 0x00000000#32 0x40000000#32 0x40800000#32))
/-- The four-bit code. -/
def qnib (v : FVec F S8x128 .f32) (b : Vec F S8x128 .i32) : IVec S8x128 32 :=
  select (qneg v b) (ori (qmag v b) (broadcast S8x128 8#32)) (qmag v b)
/-- The decoded value times the block scale. -/
def qval (v : FVec F S8x128 .f32) (b : Vec F S8x128 .i32) (s : FVec F S8x128 .f32) : FVec F S8x128 .f32 :=
  mulf (select (qneg v b)
      (subf (k8 0x00000000#32) (mulf (qi (qa v) b) (seg (qa v) 0x3F000000#32 0x3F800000#32 0x40000000#32)))
      (mulf (qi (qa v) b) (seg (qa v) 0x3F000000#32 0x3F800000#32 0x40000000#32))) s

/-- The row-group and column constants of the lane index. -/
def grpB (grp : Fin 2) : BitVec 32 := match grp with | 0 => 0#32 | 1 => 1#32
/-- Twice the column group. -/
def c2B (c : Fin 8) : BitVec 32 := match c with
  | 0 => 0#32 | 1 => 2#32 | 2 => 4#32 | 3 => 6#32 | 4 => 8#32 | 5 => 10#32 | 6 => 12#32 | 7 => 14#32

/-- The tiles a trip reads: the 16-row tiles, the 8-row tiles and the 8-row random words. -/
structure Tiles (F : FTy → Type) where
  /-- The 16-row tiles. -/
  X : Fin 2 → Fin 8 → Vec F S16x128 .bf16
  /-- The 8-row tiles. -/
  X8 : Fin 2 → Fin 2 → Fin 8 → Vec F S8x128 .bf16
  /-- The random words. -/
  B : Fin 2 → Fin 2 → Fin 8 → Vec F S8x128 .i32

variable (v15 : Vec F S8x128 .f32) (T : Tiles F)

/-- The scaled values of one half tile. -/
def tv (grp h : Fin 2) (c : Fin 8) : FVec F S8x128 .f32 :=
  qv (T.X8 grp h c) (gat8 (half h (rinv v15 T.X)) (pidx (c2B c) (grpB grp)))
/-- The codes of one half tile. -/
def tnib (grp h : Fin 2) (c : Fin 8) : IVec S8x128 32 := qnib (tv v15 T grp h c) (T.B grp h c)
/-- The decoded values of one half tile. -/
def tval (grp h : Fin 2) (c : Fin 8) : FVec F S8x128 .f32 :=
  qval (tv v15 T grp h c) (T.B grp h c) (gat8 (half h (scf v15 T.X)) (pidx (c2B c) (grpB grp)))
/-- The decoded tile stored. -/
def dyvTile (grp : Fin 2) (c : Fin 8) : FVec F S16x128 .bf16 :=
  shapeCast S16x128 (truncf .bf16 (concatenate S16x128 0 [⟨S8x128, tval v15 T grp 0 c⟩, ⟨S8x128, tval v15 T grp 1 c⟩]
    concatenates_S8x128_S8x128_S16x128_d0) bitsLt_bf16_f32) shapeCasts_S16x128_S16x128
/-- The codes of a column group, four rows of bytes to a word. -/
def bytesTile (c : Fin 8) : IVec S8x128 32 :=
  bitcast S8x128 32 (trunci 8 (concatenate S32x128 0 [⟨S8x128, tnib v15 T 0 0 c⟩, ⟨S8x128, tnib v15 T 0 1 c⟩,
    ⟨S8x128, tnib v15 T 1 0 c⟩, ⟨S8x128, tnib v15 T 1 1 c⟩] concatenates_S8x128_S8x128_S8x128_S8x128_S32x128_d0) natLt_8_32)
    bitcasts_S32x128_w8_S8x128_w32

/-- Neighbouring codes packed: each word ored with the next lane's, four bits up. -/
def pairUp (w : IVec S8x128 32) : IVec S8x128 32 :=
  ori w (shli (gat8 w (andi (addi lane8 (broadcast S8x128 1#32)) (broadcast S8x128 127#32))) (broadcast S8x128 4#32))
/-- The packed codes of two column groups. -/
def packPair (w0 w1 : IVec S8x128 32) : IVec S32x128 8 :=
  bitcast S32x128 8 (select (cmpi .slt lane8 (broadcast S8x128 64#32))
    (gat8 (pairUp w0) (andi (shli lane8 (broadcast S8x128 1#32)) (broadcast S8x128 127#32)))
    (gat8 (pairUp w1) (andi (shli lane8 (broadcast S8x128 1#32)) (broadcast S8x128 127#32))))
    bitcasts_S8x128_w32_S32x128_w8
/-- The codes tile stored. -/
def codesTile (c c' : Fin 8) : IVec S32x128 8 := packPair (bytesTile v15 T c) (bytesTile v15 T c')

end Cert.KernelIdeal.Hand
end
-- ==== Proof.Pieces.lean ====
module

public import proofs.«01_k».proof.Proof.Gen.KernelIdeal.Loops
public import proofs.«01_k».proof.Proof.Trip

@[expose] public section
set_option maxRecDepth 65536
set_option maxHeartbeats 4000000

/-! What the two loops' trips write, in terms of the stages of `Trip`. -/

noncomputable section
namespace Cert.KernelIdeal.Hand
open Idealize.ShloMosaic Idealize.ShloMosaic.TcCoe Idealize.ShloMosaic.Tactic Cert.KernelIdeal Cert.KernelIdeal.Gen

variable {F : FTy → Type} [FloatOps F]

/-- The first row of a row group in its trip. -/
def rowB : Fin 2 → BitVec 32
  | 0 => 0#32
  | 1 => 16#32
/-- The first row of a half in its row group. -/
def halfB : Fin 2 → BitVec 32
  | 0 => 0#32
  | 1 => 8#32
/-- The table of the 16-row tiles' places. -/
def xoffT (k : Fin k0_t1_loop.trips) (b : BitVec 32) : ℕ → Fin 2 → ℕ
  | 0 => k0_off1 k b
  | 1 => k0_off2 k b
  | 2 => k0_off3 k b
  | 3 => k0_off4 k b
  | 4 => k0_off5 k b
  | 5 => k0_off6 k b
  | 6 => k0_off7 k b
  | _ => k0_off8 k b
/-- Where the 16-row tile (row group, column group) of trip `k` sits. -/
def xoff (k : Fin k0_t1_loop.trips) (grp : Fin 2) (c : Fin 8) : Fin 2 → ℕ := xoffT k (rowB grp) c.val
/-- Its closed form. -/
theorem xoff_eq : ∀ (k : Fin k0_t1_loop.trips) (grp : Fin 2) (c : Fin 8), xoff k grp c = ![32 * k.val + 16 * grp.val, 128 * c.val] := by
  decide +kernel
/-- It is in range. -/
theorem xoff_inb : ∀ (k : Fin k0_t1_loop.trips) (grp : Fin 2) (c : Fin 8) (a : Fin 2), xoff k grp c a + S16x128.size a ≤ S256x1024.size a := by
  decide +kernel
/-- The table of the 8-row tiles' places. -/
def xoff8T (k : Fin k0_t1_loop.trips) (b b2 : BitVec 32) : ℕ → Fin 2 → ℕ
  | 0 => k0_off10 k b b2
  | 1 => k0_off11 k b b2
  | 2 => k0_off12 k b b2
  | 3 => k0_off13 k b b2
  | 4 => k0_off14 k b b2
  | 5 => k0_off15 k b b2
  | 6 => k0_off16 k b b2
  | _ => k0_off17 k b b2
/-- Where the 8-row tile (row group, half, column group) of trip `k` sits. -/
def xoff8 (k : Fin k0_t1_loop.trips) (grp h : Fin 2) (c : Fin 8) : Fin 2 → ℕ := xoff8T k (rowB grp) (halfB h) c.val
/-- Its closed form. -/
theorem xoff8_eq : ∀ (k : Fin k0_t1_loop.trips) (grp h : Fin 2) (c : Fin 8), xoff8 k grp h c = ![32 * k.val + 16 * grp.val + 8 * h.val, 128 * c.val] := by
  decide +kernel
/-- It is in range. -/
theorem xoff8_inb : ∀ (k : Fin k0_t1_loop.trips) (grp h : Fin 2) (c : Fin 8) (a : Fin 2), xoff8 k grp h c a + S8x128.size a ≤ S256x1024.size a := by
  decide +kernel
/-- Where the packed codes of output column group `o` sit. -/
def coff (k : Fin k0_t1_loop.trips) : Fin 4 → Fin 2 → ℕ
  | 0 => k0_off18 k
  | 1 => k0_off19 k
  | 2 => k0_off20 k
  | 3 => k0_off21 k
/-- They are in range. -/
theorem coff_inb (i : grid0.Coords) (k : Fin k0_t1_loop.trips) (h1 : k0_cond1 i = 1#1) :
    ∀ (o : Fin 4) (a : Fin 2), coff k o a + S32x128.size a ≤ S256x512.size a
  | 0 => k0_off18_inb i k h1
  | 1 => k0_off19_inb i k h1
  | 2 => k0_off20_inb i k h1
  | 3 => k0_off21_inb i k h1
/-- Their closed form. -/
theorem coff_eq (k : Fin k0_t1_loop.trips) : ∀ (o : Fin 4), coff k o = ![32 * k.val, 128 * o.val]
  | 0 => k0_off18_eq k
  | 1 => k0_off19_eq k
  | 2 => k0_off20_eq k
  | 3 => k0_off21_eq k
/-- The table of the epilogue's tiles' places. -/
def eoffT (k : Fin k0_t2_loop.trips) (b : BitVec 32) : ℕ → Fin 2 → ℕ
  | 0 => k0_off23 k b
  | 1 => k0_off24 k b
  | 2 => k0_off25 k b
  | 3 => k0_off26 k b
  | 4 => k0_off27 k b
  | 5 => k0_off28 k b
  | 6 => k0_off29 k b
  | 7 => k0_off30 k b
  | 8 => k0_off31 k b
  | 9 => k0_off32 k b
  | 10 => k0_off33 k b
  | 11 => k0_off34 k b
  | 12 => k0_off35 k b
  | 13 => k0_off36 k b
  | 14 => k0_off37 k b
  | 15 => k0_off38 k b
  | 16 => k0_off39 k b
  | 17 => k0_off40 k b
  | 18 => k0_off41 k b
  | 19 => k0_off42 k b
  | 20 => k0_off43 k b
  | 21 => k0_off44 k b
  | 22 => k0_off45 k b
  | 23 => k0_off46 k b
  | 24 => k0_off47 k b
  | 25 => k0_off48 k b
  | 26 => k0_off49 k b
  | 27 => k0_off50 k b
  | 28 => k0_off51 k b
  | 29 => k0_off52 k b
  | 30 => k0_off53 k b
  | _ => k0_off54 k b
/-- Where the epilogue's tile (row group, column group) of trip `k` sits. -/
def eoff (k : Fin k0_t2_loop.trips) (grp : Fin 2) (c : Fin 32) : Fin 2 → ℕ := eoffT k (rowB grp) c.val
/-- Its closed form. -/
theorem eoff_eq : ∀ (k : Fin k0_t2_loop.trips) (grp : Fin 2) (c : Fin 32), eoff k grp c = ![32 * k.val + 16 * grp.val, 128 * c.val] := by
  decide +kernel
/-- It is in range. -/
theorem eoff_inb : ∀ (k : Fin k0_t2_loop.trips) (grp : Fin 2) (c : Fin 32) (a : Fin 2), eoff k grp c a + S16x128.size a ≤ S256x4096.size a := by
  decide +kernel

/-- The tiles trip `k` reads. -/
def tiles (i : grid0.Coords) (arg4 : Memref sig .tc .vmem S256x1024 .bf16) (arg5 : Memref sig .tc .vmem S256x1024 .i32)
    (h1 : k0_cond1 i = 1#1) (X4 : BufTy.Contents (Elt F) arg4.view.ty) (X5 : BufTy.Contents (Elt F) arg5.view.ty)
    (k : Fin k0_t1_loop.trips) : Tiles F where
  X grp c := View.readAt (Elt F) arg4.view (Rect.unit (s := S256x1024) (xoff k grp c) S16x128.size (xoff_inb k grp c)).toLoadRect X4
  X8 grp h c := View.readAt (Elt F) arg4.view (Rect.unit (s := S256x1024) (xoff8 k grp h c) S8x128.size (xoff8_inb k grp h c)).toLoadRect X4
  B grp h c := View.readAt (Elt F) arg5.view (Rect.unit (s := S256x1024) (xoff8 k grp h c) S8x128.size (xoff8_inb k grp h c)).toLoadRect X5

section T1
variable (i : grid0.Coords) (arg4 : Memref sig .tc .vmem S256x1024 .bf16) (arg5 : Memref sig .tc .vmem S256x1024 .i32)
    (h1 : k0_cond1 i = 1#1) (v15 : Vec F S8x128 .f32) (X4 : BufTy.Contents (Elt F) arg4.view.ty)
    (X5 : BufTy.Contents (Elt F) arg5.view.ty) (k : Fin k0_t1_loop.trips)
/-- A decoded tile's piece. -/
def dyvPiece (grp : Fin 2) (c : Fin 8) : View.Piece (Elt F) S256x1024 .bf16 :=
  ⟨Rect.unit (s := S256x1024) (xoff k grp c) S16x128.size (xoff_inb k grp c), dyvTile v15 (tiles i arg4 arg5 h1 X4 X5 k) grp c⟩
/-- The scales piece. -/
def scalesPiece : View.Piece (Elt F) S256x64 .fp8e4m3 :=
  ⟨Rect.unit (k0_off9 k) S32x64.size (k0_off9_inb i k h1), scalesTile v15 (tiles i arg4 arg5 h1 X4 X5 k).X⟩
/-- A codes piece. -/
def codesPiece (o : Fin 4) (c c' : Fin 8) : View.Piece (Elt F) S256x512 .i8 :=
  ⟨Rect.unit (s := S256x512) (coff k o) S32x128.size (coff_inb i k h1 o), codesTile v15 (tiles i arg4 arg5 h1 X4 X5 k) c c'⟩
end T1

/-- A tile of the result: the product scaled, the residual added, rounded. -/
def dxTile (v12 : Vec F S1x1 .f32) (a : Vec F S16x128 .f32) (r : Vec F S16x128 .bf16) : FVec F S16x128 .bf16 :=
  truncf .bf16 (addf (mulf a (broadcastTo S16x128 (shapeCast S1x1 v12 shapeCasts_S1x1_S1x1 : FVec F S1x1 .f32) broadcasts_S1x1_S16x128)) (extf .f32 r bitsLt_bf16_f32)) bitsLt_bf16_f32

/-- The result tile's piece. -/
def dxPiece (arg6 : Memref sig .tc .vmem S256x4096 .bf16) (arg14 : Memref sig .tc .vmem S256x4096 .f32) (v12 : Vec F S1x1 .f32)
    (X6 : BufTy.Contents (Elt F) arg6.view.ty) (X14 : BufTy.Contents (Elt F) arg14.view.ty) (k : Fin k0_t2_loop.trips)
    (grp : Fin 2) (c : Fin 32) : View.Piece (Elt F) S256x4096 .bf16 :=
  ⟨Rect.unit (s := S256x4096) (eoff k grp c) S16x128.size (eoff_inb k grp c),
    dxTile v12 (View.readAt (Elt F) arg14.view (Rect.unit (s := S256x4096) (eoff k grp c) S16x128.size (eoff_inb k grp c)).toLoadRect X14)
      (View.readAt (Elt F) arg6.view (Rect.unit (s := S256x4096) (eoff k grp c) S16x128.size (eoff_inb k grp c)).toLoadRect X6)⟩

/-- The decoded tiles a trip of the quantiser loop stores. -/
theorem trip1_dyv (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (X_arg4 : BufTy.Contents (Elt F) arg4.view.ty) (X_arg5 : BufTy.Contents (Elt F) arg5.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 k).2.2.1 = (let h1 := k0_h1; let X4 := X_arg4; let X5 := X_arg5
      [dyvPiece i arg4 arg5 h1 v15 X4 X5 k 1 7, dyvPiece i arg4 arg5 h1 v15 X4 X5 k 0 7, dyvPiece i arg4 arg5 h1 v15 X4 X5 k 1 6, dyvPiece i arg4 arg5 h1 v15 X4 X5 k 0 6, dyvPiece i arg4 arg5 h1 v15 X4 X5 k 1 5, dyvPiece i arg4 arg5 h1 v15 X4 X5 k 0 5, dyvPiece i arg4 arg5 h1 v15 X4 X5 k 1 4, dyvPiece i arg4 arg5 h1 v15 X4 X5 k 0 4, dyvPiece i arg4 arg5 h1 v15 X4 X5 k 1 3, dyvPiece i arg4 arg5 h1 v15 X4 X5 k 0 3, dyvPiece i arg4 arg5 h1 v15 X4 X5 k 1 2, dyvPiece i arg4 arg5 h1 v15 X4 X5 k 0 2, dyvPiece i arg4 arg5 h1 v15 X4 X5 k 1 1, dyvPiece i arg4 arg5 h1 v15 X4 X5 k 0 1, dyvPiece i arg4 arg5 h1 v15 X4 X5 k 1 0, dyvPiece i arg4 arg5 h1 v15 X4 X5 k 0 0]) := by
  unfold trip_k0_t1
  dsimp only
  sl_kernel_rfl

/-- The scales it stores. -/
theorem trip1_scales (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (X_arg4 : BufTy.Contents (Elt F) arg4.view.ty) (X_arg5 : BufTy.Contents (Elt F) arg5.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 k).2.1 = [scalesPiece i arg4 arg5 k0_h1 v15 X_arg4 X_arg5 k] := by
  unfold trip_k0_t1
  dsimp only
  sl_kernel_rfl

/-- The codes it stores. -/
theorem trip1_codes (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (X_arg4 : BufTy.Contents (Elt F) arg4.view.ty) (X_arg5 : BufTy.Contents (Elt F) arg5.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 k).1 = (let h1 := k0_h1; let X4 := X_arg4; let X5 := X_arg5
      [codesPiece i arg4 arg5 h1 v15 X4 X5 k 3 6 7, codesPiece i arg4 arg5 h1 v15 X4 X5 k 2 4 5,
       codesPiece i arg4 arg5 h1 v15 X4 X5 k 1 2 3, codesPiece i arg4 arg5 h1 v15 X4 X5 k 0 0 1]) := by
  unfold trip_k0_t1
  dsimp only
  sl_kernel_rfl

/-- The result tiles a trip of the epilogue stores. -/
theorem trip2_dx (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (v12 : Vec F S1x1 .f32) (X_arg6 : BufTy.Contents (Elt F) arg6.view.ty) (X_arg14 : BufTy.Contents (Elt F) arg14.view.ty) (k : Fin k0_t2_loop.trips) (f8 : BufTy.Contents (Elt F) arg8.view.ty) (f11 : BufTy.Contents (Elt F) arg11.view.ty) (f12 : BufTy.Contents (Elt F) arg12.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12 X_arg6 X_arg14 k).1 f8 f11 f12 = (let X6 := X_arg6; let X14 := X_arg14
      [dxPiece arg6 arg14 v12 X6 X14 k 1 31, dxPiece arg6 arg14 v12 X6 X14 k 1 30, dxPiece arg6 arg14 v12 X6 X14 k 1 29, dxPiece arg6 arg14 v12 X6 X14 k 1 28, dxPiece arg6 arg14 v12 X6 X14 k 1 27, dxPiece arg6 arg14 v12 X6 X14 k 1 26, dxPiece arg6 arg14 v12 X6 X14 k 1 25, dxPiece arg6 arg14 v12 X6 X14 k 1 24, dxPiece arg6 arg14 v12 X6 X14 k 1 23, dxPiece arg6 arg14 v12 X6 X14 k 1 22, dxPiece arg6 arg14 v12 X6 X14 k 1 21, dxPiece arg6 arg14 v12 X6 X14 k 1 20, dxPiece arg6 arg14 v12 X6 X14 k 1 19, dxPiece arg6 arg14 v12 X6 X14 k 1 18, dxPiece arg6 arg14 v12 X6 X14 k 1 17, dxPiece arg6 arg14 v12 X6 X14 k 1 16, dxPiece arg6 arg14 v12 X6 X14 k 1 15, dxPiece arg6 arg14 v12 X6 X14 k 1 14, dxPiece arg6 arg14 v12 X6 X14 k 1 13, dxPiece arg6 arg14 v12 X6 X14 k 1 12, dxPiece arg6 arg14 v12 X6 X14 k 1 11, dxPiece arg6 arg14 v12 X6 X14 k 1 10, dxPiece arg6 arg14 v12 X6 X14 k 1 9, dxPiece arg6 arg14 v12 X6 X14 k 1 8, dxPiece arg6 arg14 v12 X6 X14 k 1 7, dxPiece arg6 arg14 v12 X6 X14 k 1 6, dxPiece arg6 arg14 v12 X6 X14 k 1 5, dxPiece arg6 arg14 v12 X6 X14 k 1 4, dxPiece arg6 arg14 v12 X6 X14 k 1 3, dxPiece arg6 arg14 v12 X6 X14 k 1 2, dxPiece arg6 arg14 v12 X6 X14 k 1 1, dxPiece arg6 arg14 v12 X6 X14 k 1 0, dxPiece arg6 arg14 v12 X6 X14 k 0 31, dxPiece arg6 arg14 v12 X6 X14 k 0 30, dxPiece arg6 arg14 v12 X6 X14 k 0 29, dxPiece arg6 arg14 v12 X6 X14 k 0 28, dxPiece arg6 arg14 v12 X6 X14 k 0 27, dxPiece arg6 arg14 v12 X6 X14 k 0 26, dxPiece arg6 arg14 v12 X6 X14 k 0 25, dxPiece arg6 arg14 v12 X6 X14 k 0 24, dxPiece arg6 arg14 v12 X6 X14 k 0 23, dxPiece arg6 arg14 v12 X6 X14 k 0 22, dxPiece arg6 arg14 v12 X6 X14 k 0 21, dxPiece arg6 arg14 v12 X6 X14 k 0 20, dxPiece arg6 arg14 v12 X6 X14 k 0 19, dxPiece arg6 arg14 v12 X6 X14 k 0 18, dxPiece arg6 arg14 v12 X6 X14 k 0 17, dxPiece arg6 arg14 v12 X6 X14 k 0 16, dxPiece arg6 arg14 v12 X6 X14 k 0 15, dxPiece arg6 arg14 v12 X6 X14 k 0 14, dxPiece arg6 arg14 v12 X6 X14 k 0 13, dxPiece arg6 arg14 v12 X6 X14 k 0 12, dxPiece arg6 arg14 v12 X6 X14 k 0 11, dxPiece arg6 arg14 v12 X6 X14 k 0 10, dxPiece arg6 arg14 v12 X6 X14 k 0 9, dxPiece arg6 arg14 v12 X6 X14 k 0 8, dxPiece arg6 arg14 v12 X6 X14 k 0 7, dxPiece arg6 arg14 v12 X6 X14 k 0 6, dxPiece arg6 arg14 v12 X6 X14 k 0 5, dxPiece arg6 arg14 v12 X6 X14 k 0 4, dxPiece arg6 arg14 v12 X6 X14 k 0 3, dxPiece arg6 arg14 v12 X6 X14 k 0 2, dxPiece arg6 arg14 v12 X6 X14 k 0 1, dxPiece arg6 arg14 v12 X6 X14 k 0 0]) := by
  unfold trip_k0_t2
  dsimp only
  sl_kernel_rfl

end Cert.KernelIdeal.Hand
end
-- ==== Proof.Blocks.lean ====
module

public import proofs.«01_k».proof.Proof.Pieces
public import Idealize.ShloMosaic.Lib.Pipeline.FrameBody
public import Idealize.ShloMosaic.Lib.Ring
public import Idealize.ShloMosaic.Lib.WholeRead
public import Idealize.ShloMosaic.Lib.Pipeline.ValueKit

@[expose] public section
set_option maxRecDepth 65536
set_option maxHeartbeats 1000000

/-! What the two loops leave in the buffers they fill, as functions of the blocks the kernel is
handed: the pieces of all trips cover each buffer, and each agrees with one function of the block. -/

noncomputable section
namespace Cert.KernelIdeal.Hand
open Idealize.ShloMosaic Idealize.ShloMosaic.TcCoe Idealize.ShloMosaic.Tactic Cert.KernelIdeal Cert.KernelIdeal.Gen

variable {F : FTy → Type} [FloatOps F]

/-- The index of a rank-two shape at a row and a column, each reduced into range. -/
def mk2 {a b : ℕ} [NeZero a] [NeZero b] (r c : ℕ) : (⟨2, ![a, b]⟩ : Shape).Idx := ix2 (Fin.ofNat a r) (Fin.ofNat b c)
/-- An index is `mk2` of numbers congruent to its coordinates. -/
theorem eq_mk2 {a b : ℕ} [NeZero a] [NeZero b] (y : (⟨2, ![a, b]⟩ : Shape).Idx) {r c : ℕ}
    (h0 : (y 0).val = r % a) (h1 : (y 1).val = c % b) : y = mk2 r c := by
  funext d
  match d with
  | 0 => exact Fin.ext h0
  | 1 => exact Fin.ext h1
/-- `mk2` depends on its arguments through their residues. -/
theorem mk2_congr {a b : ℕ} [NeZero a] [NeZero b] {r c r' c' : ℕ}
    (h0 : r % a = r' % a) (h1 : c % b = c' % b) : (mk2 r c : (⟨2, ![a, b]⟩ : Shape).Idx) = mk2 r' c' :=
  eq_mk2 _ h0 h1

/-- The first loop runs eight trips. -/
theorem trips1 : k0_t1_loop.trips = 8 := by decide +kernel
/-- The second loop runs eight trips. -/
theorem trips2 : k0_t2_loop.trips = 8 := by decide +kernel

/-- The tiles of rows `32 k …` of a block. -/
def blkTiles (x2 : Vec F S256x1024 .bf16) (x3 : Vec F S256x1024 .i32) (k : ℕ) : Tiles F where
  X grp c := fun z => x2 (mk2 (32 * k + 16 * grp.val + (z 0).val) (128 * c.val + (z 1).val))
  X8 grp h c := fun z => x2 (mk2 (32 * k + 16 * grp.val + 8 * h.val + (z 0).val) (128 * c.val + (z 1).val))
  B grp h c := fun z => x3 (mk2 (32 * k + 16 * grp.val + 8 * h.val + (z 0).val) (128 * c.val + (z 1).val))

/-- A unit rectangle's index at an index, by coordinates. -/
theorem unit_idx {a b : ℕ} [NeZero a] [NeZero b] (off size : Fin 2 → ℕ) (inb : ∀ d, off d + size d ≤ (⟨2, ![a, b]⟩ : Shape).size d)
    (x : (Rect.unit (s := ⟨2, ![a, b]⟩) off size inb).shape.Idx) {r c : ℕ} (h : off = ![r, c]) :
    (Rect.unit (s := ⟨2, ![a, b]⟩) off size inb).emb x = mk2 (r + (x 0).val) (c + (x 1).val) := by
  subst h
  have i0 := inb 0
  have i1 := inb 1
  have l0 := (x 0).isLt
  have l1 := (x 1).isLt
  refine eq_mk2 _ ?_ ?_
  · show r + 1 * (x 0).val = _
    rw [Nat.mod_eq_of_lt, Nat.one_mul]
    change r + size 0 ≤ a at i0
    change (x 0).val < size 0 at l0
    omega
  · show c + 1 * (x 1).val = _
    rw [Nat.mod_eq_of_lt, Nat.one_mul]
    change c + size 1 ≤ b at i1
    change (x 1).val < size 1 at l1
    omega

/-- The tiles a trip reads of whole buffers are the block's. -/
theorem tiles_unread (i : grid0.Coords) (arg4 : Memref sig .tc .vmem S256x1024 .bf16) (harg4 : arg4.IsWhole)
    (arg5 : Memref sig .tc .vmem S256x1024 .i32) (harg5 : arg5.IsWhole)
    (h1 : k0_cond1 i = 1#1) (x2 : Vec F S256x1024 .bf16) (x3 : Vec F S256x1024 .i32) (k : Fin k0_t1_loop.trips) :
    tiles i arg4 arg5 h1 (harg4.unread x2) (harg5.unread x3) k = blkTiles x2 x3 k.val := by
  unfold tiles blkTiles
  congr 1
  · funext grp c z
    rw [harg4.readAt_unread]
    exact congrArg x2 (unit_idx _ _ _ z (xoff_eq k grp c))
  · funext grp h c z
    rw [harg4.readAt_unread]
    exact congrArg x2 (unit_idx _ _ _ z (xoff8_eq k grp h c))
  · funext grp h c z
    rw [harg5.readAt_unread]
    exact congrArg x3 (unit_idx _ _ _ z (xoff8_eq k grp h c))

/-- The decoded block. -/
def dyvB (x0 : Vec F S8x128 .f32) (x2 : Vec F S256x1024 .bf16) (x3 : Vec F S256x1024 .i32) : Vec F S256x1024 .bf16 := fun y =>
  dyvTile x0 (blkTiles x2 x3 ((y 0).val / 32)) (Fin.ofNat 2 ((y 0).val / 16)) (Fin.ofNat 8 ((y 1).val / 128)) (mk2 (y 0).val (y 1).val)
/-- The scales block. -/
def scalesB (x0 : Vec F S8x128 .f32) (x2 : Vec F S256x1024 .bf16) (x3 : Vec F S256x1024 .i32) : Vec F S256x64 .fp8e4m3 := fun y =>
  scalesTile x0 (blkTiles x2 x3 ((y 0).val / 32)).X (mk2 (y 0).val (y 1).val)
/-- The codes block. -/
def codesB (x0 : Vec F S8x128 .f32) (x2 : Vec F S256x1024 .bf16) (x3 : Vec F S256x1024 .i32) : Vec F S256x512 .i8 := fun y =>
  codesTile x0 (blkTiles x2 x3 ((y 0).val / 32)) (Fin.ofNat 8 (2 * ((y 1).val / 128))) (Fin.ofNat 8 (2 * ((y 1).val / 128) + 1)) (mk2 (y 0).val (y 1).val)
/-- The result block, from the product, the scale and the residual. -/
def dxB (acc : Vec F S256x4096 .f32) (v12 : Vec F S1x1 .f32) (x4 : Vec F S256x4096 .bf16) : Vec F S256x4096 .bf16 := fun y =>
  dxTile v12 (fun _ => acc y) (fun _ => x4 y) (mk2 (y 0).val (y 1).val)

/-- The block's value at a place of a tile is the tile's. -/
theorem dyv_agree (v15 : Vec F S8x128 .f32) (x2 : Vec F S256x1024 .bf16) (x3 : Vec F S256x1024 .i32) (k : ℕ) (hk : k < 8)
    (grp : Fin 2) (cc : Fin 8) (z : S16x128.Idx) :
    dyvTile v15 (blkTiles x2 x3 k) grp cc z = dyvB v15 x2 x3 (mk2 (32 * k + 16 * grp.val + (z 0).val) (128 * cc.val + (z 1).val)) := by
  have hg := grp.isLt
  have hc := cc.isLt
  have z0 : (z 0).val < 16 := (z 0).isLt
  have z1 : (z 1).val < 128 := (z 1).isLt
  unfold dyvB
  have e0 : ((mk2 (32 * k + 16 * grp.val + (z 0).val) (128 * cc.val + (z 1).val) : S256x1024.Idx) 0).val = 32 * k + 16 * grp.val + (z 0).val := Nat.mod_eq_of_lt (by omega)
  have e1 : ((mk2 (32 * k + 16 * grp.val + (z 0).val) (128 * cc.val + (z 1).val) : S256x1024.Idx) 1).val = 128 * cc.val + (z 1).val := Nat.mod_eq_of_lt (by omega)
  rw [e0, e1]
  have a0 : (32 * k + 16 * grp.val + (z 0).val) / 32 = k := by omega
  have a1 : Fin.ofNat 2 ((32 * k + 16 * grp.val + (z 0).val) / 16) = grp := Fin.ext (by show _ % 2 = _; omega)
  have a2 : Fin.ofNat 8 ((128 * cc.val + (z 1).val) / 128) = cc := Fin.ext (by show _ % 8 = _; omega)
  have a3 : (mk2 (32 * k + 16 * grp.val + (z 0).val) (128 * cc.val + (z 1).val) : S16x128.Idx) = z :=
    (eq_mk2 z (by omega) (by omega)).symm
  rw [a0, a1, a2, a3]

/-- The block's value at a place of a tile is the tile's. -/
theorem scales_agree (v15 : Vec F S8x128 .f32) (x2 : Vec F S256x1024 .bf16) (x3 : Vec F S256x1024 .i32) (k : ℕ) (hk : k < 8)
    (z : S32x64.Idx) :
    scalesTile v15 (blkTiles x2 x3 k).X z = scalesB v15 x2 x3 (mk2 (32 * k + (z 0).val) (0 + (z 1).val)) := by
  have z0 : (z 0).val < 32 := (z 0).isLt
  have z1 : (z 1).val < 64 := (z 1).isLt
  unfold scalesB
  have e0 : ((mk2 (32 * k + (z 0).val) (0 + (z 1).val) : S256x64.Idx) 0).val = 32 * k + (z 0).val := Nat.mod_eq_of_lt (by omega)
  have e1 : ((mk2 (32 * k + (z 0).val) (0 + (z 1).val) : S256x64.Idx) 1).val = (z 1).val := (Nat.mod_eq_of_lt (by omega)).trans (Nat.zero_add _)
  rw [e0, e1]
  have a0 : (32 * k + (z 0).val) / 32 = k := by omega
  have a3 : (mk2 (32 * k + (z 0).val) (z 1).val : S32x64.Idx) = z := (eq_mk2 z (by omega) (by omega)).symm
  rw [a0, a3]

/-- The block's value at a place of a tile is the tile's. -/
theorem codes_agree (v15 : Vec F S8x128 .f32) (x2 : Vec F S256x1024 .bf16) (x3 : Vec F S256x1024 .i32) (k : ℕ) (hk : k < 8)
    (o : Fin 4) (z : S32x128.Idx) :
    codesTile v15 (blkTiles x2 x3 k) (Fin.ofNat 8 (2 * o.val)) (Fin.ofNat 8 (2 * o.val + 1)) z
      = codesB v15 x2 x3 (mk2 (32 * k + (z 0).val) (128 * o.val + (z 1).val)) := by
  have ho := o.isLt
  have z0 : (z 0).val < 32 := (z 0).isLt
  have z1 : (z 1).val < 128 := (z 1).isLt
  unfold codesB
  have e0 : ((mk2 (32 * k + (z 0).val) (128 * o.val + (z 1).val) : S256x512.Idx) 0).val = 32 * k + (z 0).val := Nat.mod_eq_of_lt (by omega)
  have e1 : ((mk2 (32 * k + (z 0).val) (128 * o.val + (z 1).val) : S256x512.Idx) 1).val = 128 * o.val + (z 1).val := Nat.mod_eq_of_lt (by omega)
  rw [e0, e1]
  have a0 : (32 * k + (z 0).val) / 32 = k := by omega
  have a1 : (128 * o.val + (z 1).val) / 128 = o.val := by omega
  have a3 : (mk2 (32 * k + (z 0).val) (128 * o.val + (z 1).val) : S32x128.Idx) = z := (eq_mk2 z (by omega) (by omega)).symm
  rw [a0, a1, a3]

/-- The result block's value at a place of a tile is the tile's. -/
theorem dx_agree (acc : Vec F S256x4096 .f32) (v12 : Vec F S1x1 .f32) (x4 : Vec F S256x4096 .bf16) (k : ℕ)
    (grp : Fin 2) (cc : Fin 32) (z : S16x128.Idx) (a : Vec F S16x128 .f32) (r : Vec F S16x128 .bf16) (y : S256x4096.Idx)
    (hy : y = mk2 (32 * k + 16 * grp.val + (z 0).val) (128 * cc.val + (z 1).val)) (ha : a z = acc y) (hr : r z = x4 y) (hk : k < 8) :
    dxTile v12 a r z = dxB acc v12 x4 y := by
  have hg := grp.isLt
  have hc := cc.isLt
  have z0 : (z 0).val < 16 := (z 0).isLt
  have z1 : (z 1).val < 128 := (z 1).isLt
  have e0 : (y 0).val = 32 * k + 16 * grp.val + (z 0).val := by rw [hy]; exact Nat.mod_eq_of_lt (by omega)
  have e1 : (y 1).val = 128 * cc.val + (z 1).val := by rw [hy]; exact Nat.mod_eq_of_lt (by omega)
  have a3 : (mk2 (y 0).val (y 1).val : S16x128.Idx) = z := (eq_mk2 z (by omega) (by omega)).symm
  unfold dxB
  rw [a3, ← ha, ← hr]
  rfl

/-- The order the decoded tiles are stored in, last first. -/
def enum1 : List (Fin 2 × Fin 8) := [(1, 7), (0, 7), (1, 6), (0, 6), (1, 5), (0, 5), (1, 4), (0, 4), (1, 3), (0, 3), (1, 2), (0, 2), (1, 1), (0, 1), (1, 0), (0, 0)]
/-- The order the result tiles are stored in, last first. -/
def enum2 : List (Fin 2 × Fin 32) := [(1, 31), (1, 30), (1, 29), (1, 28), (1, 27), (1, 26), (1, 25), (1, 24), (1, 23), (1, 22), (1, 21), (1, 20), (1, 19), (1, 18), (1, 17), (1, 16), (1, 15), (1, 14), (1, 13), (1, 12), (1, 11), (1, 10), (1, 9), (1, 8), (1, 7), (1, 6), (1, 5), (1, 4), (1, 3), (1, 2), (1, 1), (1, 0), (0, 31), (0, 30), (0, 29), (0, 28), (0, 27), (0, 26), (0, 25), (0, 24), (0, 23), (0, 22), (0, 21), (0, 20), (0, 19), (0, 18), (0, 17), (0, 16), (0, 15), (0, 14), (0, 13), (0, 12), (0, 11), (0, 10), (0, 9), (0, 8), (0, 7), (0, 6), (0, 5), (0, 4), (0, 3), (0, 2), (0, 1), (0, 0)]
/-- Every tile is stored. -/
theorem enum1_all : ∀ q, q ∈ enum1 := by decide +kernel
/-- Every tile is stored. -/
theorem enum2_all : ∀ q, q ∈ enum2 := by decide +kernel

/-- A piece of the first loop's decoded tiles is some trip's. -/
theorem pb1_dyv_mem (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (X_arg4 : BufTy.Contents (Elt F) arg4.view.ty) (X_arg5 : BufTy.Contents (Elt F) arg5.view.ty) (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 n).2.2, ∃ k grp cc, p = dyvPiece i arg4 arg5 k0_h1 v15 X_arg4 X_arg5 k grp cc)
    ∧ (∀ (k : Fin k0_t1_loop.trips) grp cc, k.val < n → dyvPiece i arg4 arg5 k0_h1 v15 X_arg4 X_arg5 k grp cc ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 n).2.2) := by
  induction n with
  | zero => exact ⟨fun p hp => absurd hp List.not_mem_nil, fun k _ _ h => absurd h (Nat.not_lt_zero _)⟩
  | succ n ih =>
    obtain ⟨ih1, ih2⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩
    have hL : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩).2.2 = enum1.map (fun q => dyvPiece i arg4 arg5 k0_h1 v15 X_arg4 X_arg5 ⟨n, hn⟩ q.1 q.2) :=
      trip1_dyv 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩
    have h2 := congrArg (fun z => z.2.2) hs
    dsimp only at h2 hL
    rw [hL] at h2
    rw [h2]
    constructor
    · intro p hp
      rcases List.mem_append.mp hp with hp | hp
      · obtain ⟨q, _, rfl⟩ := List.mem_map.mp hp
        exact ⟨_, q.1, q.2, rfl⟩
      · exact ih1 p hp
    · intro k grp cc hk
      refine List.mem_append.mpr ?_
      rcases Nat.lt_or_ge k.val n with h | h
      · exact Or.inr (ih2 k grp cc h)
      · have : k = ⟨n, hn⟩ := Fin.ext (by have := hk; show k.val = n; omega)
        subst this
        exact Or.inl (List.mem_map.mpr ⟨(grp, cc), enum1_all _, rfl⟩)

/-- A piece of the first loop's scales is some trip's. -/
theorem pb1_scales_mem (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (X_arg4 : BufTy.Contents (Elt F) arg4.view.ty) (X_arg5 : BufTy.Contents (Elt F) arg5.view.ty) (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 n).2.1, ∃ k, p = scalesPiece i arg4 arg5 k0_h1 v15 X_arg4 X_arg5 k)
    ∧ (∀ (k : Fin k0_t1_loop.trips), k.val < n → scalesPiece i arg4 arg5 k0_h1 v15 X_arg4 X_arg5 k ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 n).2.1) := by
  induction n with
  | zero => exact ⟨fun p hp => absurd hp List.not_mem_nil, fun k h => absurd h (Nat.not_lt_zero _)⟩
  | succ n ih =>
    obtain ⟨ih1, ih2⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩
    have hL : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩).2.1 = [scalesPiece i arg4 arg5 k0_h1 v15 X_arg4 X_arg5 ⟨n, hn⟩] :=
      trip1_scales 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩
    have h2 := congrArg (fun z => z.2.1) hs
    dsimp only at h2 hL
    rw [hL] at h2
    rw [h2]
    constructor
    · intro p hp
      rcases List.mem_append.mp hp with hp | hp
      · exact ⟨_, List.mem_singleton.mp hp⟩
      · exact ih1 p hp
    · intro k hk
      refine List.mem_append.mpr ?_
      rcases Nat.lt_or_ge k.val n with h | h
      · exact Or.inr (ih2 k h)
      · have : k = ⟨n, hn⟩ := Fin.ext (by have := hk; show k.val = n; omega)
        subst this
        exact Or.inl (List.mem_singleton.mpr rfl)

/-- The codes piece of output column group `o`. -/
def codesPieceO (i : grid0.Coords) (arg4 : Memref sig .tc .vmem S256x1024 .bf16) (arg5 : Memref sig .tc .vmem S256x1024 .i32)
    (h1 : k0_cond1 i = 1#1) (v15 : Vec F S8x128 .f32) (X4 : BufTy.Contents (Elt F) arg4.view.ty)
    (X5 : BufTy.Contents (Elt F) arg5.view.ty) (k : Fin k0_t1_loop.trips) (o : Fin 4) : View.Piece (Elt F) S256x512 .i8 :=
  codesPiece i arg4 arg5 h1 v15 X4 X5 k o (Fin.ofNat 8 (2 * o.val)) (Fin.ofNat 8 (2 * o.val + 1))

/-- A piece of the first loop's codes is some trip's. -/
theorem pb1_codes_mem (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (X_arg4 : BufTy.Contents (Elt F) arg4.view.ty) (X_arg5 : BufTy.Contents (Elt F) arg5.view.ty) (n : ℕ) (hn : n ≤ k0_t1_loop.trips) :
    (∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 n).1, ∃ k o, p = codesPieceO i arg4 arg5 k0_h1 v15 X_arg4 X_arg5 k o)
    ∧ (∀ (k : Fin k0_t1_loop.trips) o, k.val < n → codesPieceO i arg4 arg5 k0_h1 v15 X_arg4 X_arg5 k o ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 n).1) := by
  induction n with
  | zero => exact ⟨fun p hp => absurd hp List.not_mem_nil, fun k _ h => absurd h (Nat.not_lt_zero _)⟩
  | succ n ih =>
    obtain ⟨ih1, ih2⟩ := ih (Nat.le_of_succ_le hn)
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩
    have hL : (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩).1 = [3, 2, 1, 0].map (fun o => codesPieceO i arg4 arg5 k0_h1 v15 X_arg4 X_arg5 ⟨n, hn⟩ o) :=
      trip1_codes 𝒱 c bd i arg2 harg2 arg3 harg3 arg4 harg4 arg5 harg5 arg6 harg6 arg7 harg7 arg8 harg8 arg9 harg9 arg10 harg10 arg11 harg11 arg12 harg12 arg13 harg13 arg14 harg14 k0_h1 v15 X_arg4 X_arg5 ⟨n, hn⟩
    have h2 := congrArg (fun z => z.1) hs
    dsimp only at h2 hL
    rw [hL] at h2
    rw [h2]
    constructor
    · intro p hp
      rcases List.mem_append.mp hp with hp | hp
      · obtain ⟨q, _, rfl⟩ := List.mem_map.mp hp
        exact ⟨_, q, rfl⟩
      · exact ih1 p hp
    · intro k o hk
      refine List.mem_append.mpr ?_
      rcases Nat.lt_or_ge k.val n with h | h
      · exact Or.inr (ih2 k o h)
      · have : k = ⟨n, hn⟩ := Fin.ext (by have := hk; show k.val = n; omega)
        subst this
        exact Or.inl (List.mem_map.mpr ⟨o, (by revert o; decide), rfl⟩)

/-- A piece of the epilogue's result tiles is some trip's. -/
theorem pb2_dx_mem (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (v12 : Vec F S1x1 .f32) (X_arg6 : BufTy.Contents (Elt F) arg6.view.ty) (X_arg14 : BufTy.Contents (Elt F) arg14.view.ty) (G_arg8 : BufTy.Contents (Elt F) arg8.view.ty) (G_arg11 : BufTy.Contents (Elt F) arg11.view.ty) (G_arg12 : BufTy.Contents (Elt F) arg12.view.ty) (n : ℕ) (hn : n ≤ k0_t2_loop.trips) :
    (∀ p ∈ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12 X_arg6 X_arg14 G_arg8 G_arg11 G_arg12 n).1, ∃ k grp cc, p = dxPiece arg6 arg14 v12 X_arg6 X_arg14 k grp cc)
    ∧ (∀ (k : Fin k0_t2_loop.trips) grp cc, k.val < n → dxPiece arg6 arg14 v12 X_arg6 X_arg14 k grp cc ∈ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12 X_arg6 X_arg14 G_arg8 G_arg11 G_arg12 n).1) := by
  induction n with
  | zero => exact ⟨fun p hp => absurd hp List.not_mem_nil, fun k _ _ h => absurd h (Nat.not_lt_zero _)⟩
  | succ n ih =>
    obtain ⟨ih1, ih2⟩ := ih (Nat.le_of_succ_le hn)
    have hs := pb_k0_t2_succ (F := F) 𝒱 c bd i arg2 harg2 arg3 harg3 arg4 harg4 arg5 harg5 arg6 harg6 arg7 harg7 arg8 harg8 arg9 harg9 arg10 harg10 arg11 harg11 arg12 harg12 arg13 harg13 arg14 harg14 v12 X_arg6 X_arg14 G_arg8 G_arg11 G_arg12 ⟨n, hn⟩
    have h2 := congrArg (fun z => z.1) hs
    dsimp only at h2
    have hL := fun f8 f11 f12 => (show (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12 X_arg6 X_arg14 ⟨n, hn⟩).1 f8 f11 f12 = enum2.map (fun q => dxPiece arg6 arg14 v12 X_arg6 X_arg14 ⟨n, hn⟩ q.1 q.2) from
      trip2_dx 𝒱 c bd i arg2 harg2 arg3 harg3 arg4 harg4 arg5 harg5 arg6 harg6 arg7 harg7 arg8 harg8 arg9 harg9 arg10 harg10 arg11 harg11 arg12 harg12 arg13 harg13 arg14 harg14 v12 X_arg6 X_arg14 ⟨n, hn⟩ f8 f11 f12)
    rw [hL] at h2
    rw [h2]
    constructor
    · intro p hp
      rcases List.mem_append.mp hp with hp | hp
      · obtain ⟨q, _, rfl⟩ := List.mem_map.mp hp
        exact ⟨_, q.1, q.2, rfl⟩
      · exact ih1 p hp
    · intro k grp cc hk
      refine List.mem_append.mpr ?_
      rcases Nat.lt_or_ge k.val n with h | h
      · exact Or.inr (ih2 k grp cc h)
      · have : k = ⟨n, hn⟩ := Fin.ext (by have := hk; show k.val = n; omega)
        subst this
        exact Or.inl (List.mem_map.mpr ⟨(grp, cc), enum2_all _, rfl⟩)

/-- What the first loop leaves in the decoded block. -/
theorem read_dyv (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (x2 : Vec F S256x1024 .bf16) (x3 : Vec F S256x1024 .i32) (f : BufTy.Contents (Elt F) arg13.view.ty) (L : List (View.Piece (Elt F) S256x1024 .bf16))
    (hL : L = (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 (harg4.unread x2) (harg5.unread x3) k0_t1_loop.trips).2.2) :
    arg13.view.read (Elt F) (arg13.view.writes (Elt F) f L) = dyvB v15 x2 x3 := by
  subst hL
  obtain ⟨h1, h2⟩ := pb1_dyv_mem 𝒱 c bd i arg2 harg2 arg3 harg3 arg4 harg4 arg5 harg5 arg6 harg6 arg7 harg7 arg8 harg8 arg9 harg9 arg10 harg10 arg11 harg11 arg12 harg12 arg13 harg13 arg14 harg14 k0_h1 v15 (harg4.unread x2) (harg5.unread x3) k0_t1_loop.trips le_rfl
  funext y
  have y0 : (y 0).val < 256 := (y 0).isLt
  have y1 : (y 1).val < 1024 := (y 1).isLt
  refine View.read_writes_apply_of_pieces _ _ _ _ ?_ y ?_
  · intro p hp z
    obtain ⟨k, grp, cc, rfl⟩ := h1 p hp
    have hk : k.val < 8 := Nat.lt_of_lt_of_eq k.isLt trips1
    have E : (dyvPiece i arg4 arg5 k0_h1 v15 (harg4.unread x2) (harg5.unread x3) k grp cc).1.emb z = mk2 (32 * k.val + 16 * grp.val + (z 0).val) (128 * cc.val + (z 1).val) :=
      unit_idx _ _ (xoff_inb k grp cc) z (xoff_eq k grp cc)
    refine Eq.trans ?_ (congrArg (dyvB v15 x2 x3) E.symm)
    show dyvTile v15 (tiles i arg4 arg5 k0_h1 (harg4.unread x2) (harg5.unread x3) k) grp cc z = _
    rw [tiles_unread]
    exact dyv_agree v15 x2 x3 k.val hk grp cc z
  · have hk : (y 0).val / 32 < k0_t1_loop.trips := by rw [trips1]; omega
    refine ⟨_, h2 ⟨(y 0).val / 32, hk⟩ (Fin.ofNat 2 ((y 0).val / 16)) (Fin.ofNat 8 ((y 1).val / 128)) hk, ?_⟩
    refine (Rect.mem_set_unit (inb := xoff_inb _ _ _)).mpr fun d => ?_
    rw [xoff_eq]
    match d with
    | 0 =>
      show 32 * ((y 0).val / 32) + 16 * ((y 0).val / 16 % 2) ≤ (y 0).val ∧ (y 0).val < 32 * ((y 0).val / 32) + 16 * ((y 0).val / 16 % 2) + 16
      omega
    | 1 =>
      show 128 * ((y 1).val / 128 % 8) ≤ (y 1).val ∧ (y 1).val < 128 * ((y 1).val / 128 % 8) + 128
      omega

/-- What the first loop leaves in the scales block. -/
theorem read_scales (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (x2 : Vec F S256x1024 .bf16) (x3 : Vec F S256x1024 .i32) (f : BufTy.Contents (Elt F) arg10.view.ty) (L : List (View.Piece (Elt F) S256x64 .fp8e4m3))
    (hL : L = (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 (harg4.unread x2) (harg5.unread x3) k0_t1_loop.trips).2.1) :
    arg10.view.read (Elt F) (arg10.view.writes (Elt F) f L) = scalesB v15 x2 x3 := by
  subst hL
  obtain ⟨h1, h2⟩ := pb1_scales_mem 𝒱 c bd i arg2 harg2 arg3 harg3 arg4 harg4 arg5 harg5 arg6 harg6 arg7 harg7 arg8 harg8 arg9 harg9 arg10 harg10 arg11 harg11 arg12 harg12 arg13 harg13 arg14 harg14 k0_h1 v15 (harg4.unread x2) (harg5.unread x3) k0_t1_loop.trips le_rfl
  funext y
  have y0 : (y 0).val < 256 := (y 0).isLt
  have y1 : (y 1).val < 64 := (y 1).isLt
  refine View.read_writes_apply_of_pieces _ _ _ _ ?_ y ?_
  · intro p hp z
    obtain ⟨k, rfl⟩ := h1 p hp
    have hk : k.val < 8 := Nat.lt_of_lt_of_eq k.isLt trips1
    have E : (scalesPiece i arg4 arg5 k0_h1 v15 (harg4.unread x2) (harg5.unread x3) k).1.emb z = mk2 (32 * k.val + (z 0).val) (0 + (z 1).val) :=
      unit_idx _ _ (k0_off9_inb i k k0_h1) z (k0_off9_eq k)
    refine Eq.trans ?_ (congrArg (scalesB v15 x2 x3) E.symm)
    show scalesTile v15 (tiles i arg4 arg5 k0_h1 (harg4.unread x2) (harg5.unread x3) k).X z = _
    rw [tiles_unread]
    exact scales_agree v15 x2 x3 k.val hk z
  · have hk : (y 0).val / 32 < k0_t1_loop.trips := by rw [trips1]; omega
    refine ⟨_, h2 ⟨(y 0).val / 32, hk⟩ hk, ?_⟩
    refine (Rect.mem_set_unit (inb := k0_off9_inb i _ k0_h1)).mpr fun d => ?_
    rw [k0_off9_eq]
    match d with
    | 0 =>
      show 32 * ((y 0).val / 32) ≤ (y 0).val ∧ (y 0).val < 32 * ((y 0).val / 32) + 32
      omega
    | 1 =>
      show 0 ≤ (y 1).val ∧ (y 1).val < 0 + 64
      omega

/-- What the first loop leaves in the codes block. -/
theorem read_codes (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (k0_h1 : k0_cond1 i = 1#1) (v15 : Vec F S8x128 .f32) (x2 : Vec F S256x1024 .bf16) (x3 : Vec F S256x1024 .i32) (f : BufTy.Contents (Elt F) arg9.view.ty) (L : List (View.Piece (Elt F) S256x512 .i8))
    (hL : L = (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 k0_h1 v15 (harg4.unread x2) (harg5.unread x3) k0_t1_loop.trips).1) :
    arg9.view.read (Elt F) (arg9.view.writes (Elt F) f L) = codesB v15 x2 x3 := by
  subst hL
  obtain ⟨h1, h2⟩ := pb1_codes_mem 𝒱 c bd i arg2 harg2 arg3 harg3 arg4 harg4 arg5 harg5 arg6 harg6 arg7 harg7 arg8 harg8 arg9 harg9 arg10 harg10 arg11 harg11 arg12 harg12 arg13 harg13 arg14 harg14 k0_h1 v15 (harg4.unread x2) (harg5.unread x3) k0_t1_loop.trips le_rfl
  funext y
  have y0 : (y 0).val < 256 := (y 0).isLt
  have y1 : (y 1).val < 512 := (y 1).isLt
  refine View.read_writes_apply_of_pieces _ _ _ _ ?_ y ?_
  · intro p hp z
    obtain ⟨k, o, rfl⟩ := h1 p hp
    have hk : k.val < 8 := Nat.lt_of_lt_of_eq k.isLt trips1
    have E : (codesPieceO i arg4 arg5 k0_h1 v15 (harg4.unread x2) (harg5.unread x3) k o).1.emb z = mk2 (32 * k.val + (z 0).val) (128 * o.val + (z 1).val) :=
      unit_idx _ _ (coff_inb i k k0_h1 o) z (coff_eq k o)
    refine Eq.trans ?_ (congrArg (codesB v15 x2 x3) E.symm)
    show codesTile v15 (tiles i arg4 arg5 k0_h1 (harg4.unread x2) (harg5.unread x3) k) (Fin.ofNat 8 (2 * o.val)) (Fin.ofNat 8 (2 * o.val + 1)) z = _
    rw [tiles_unread]
    exact codes_agree v15 x2 x3 k.val hk o z
  · have hk : (y 0).val / 32 < k0_t1_loop.trips := by rw [trips1]; omega
    refine ⟨_, h2 ⟨(y 0).val / 32, hk⟩ (Fin.ofNat 4 ((y 1).val / 128)) hk, ?_⟩
    refine (Rect.mem_set_unit (inb := coff_inb i _ k0_h1 _)).mpr fun d => ?_
    rw [coff_eq]
    match d with
    | 0 =>
      show 32 * ((y 0).val / 32) ≤ (y 0).val ∧ (y 0).val < 32 * ((y 0).val / 32) + 32
      omega
    | 1 =>
      show 128 * ((y 1).val / 128 % 4) ≤ (y 1).val ∧ (y 1).val < 128 * ((y 1).val / 128 % 4) + 128
      omega

/-- What the epilogue leaves in the result block. -/
theorem read_dx (𝒱 : Variants) (c : Dev nD) (bd : Option 𝒱.V) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (v12 : Vec F S1x1 .f32) (G_arg8 : BufTy.Contents (Elt F) arg8.view.ty) (G_arg11 : BufTy.Contents (Elt F) arg11.view.ty) (G_arg12 : BufTy.Contents (Elt F) arg12.view.ty)
    (x4 : Vec F S256x4096 .bf16) (X14 : BufTy.Contents (Elt F) arg14.view.ty) (L : List (View.Piece (Elt F) S256x4096 .bf16))
    (hL : L = (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 v12 (harg6.unread x4) X14 G_arg8 G_arg11 G_arg12 k0_t2_loop.trips).1) (f : BufTy.Contents (Elt F) arg8.view.ty) :
    arg8.view.read (Elt F) (arg8.view.writes (Elt F) f L) = dxB (arg14.view.read (Elt F) X14) v12 x4 := by
  subst hL
  obtain ⟨h1, h2⟩ := pb2_dx_mem 𝒱 c bd i arg2 harg2 arg3 harg3 arg4 harg4 arg5 harg5 arg6 harg6 arg7 harg7 arg8 harg8 arg9 harg9 arg10 harg10 arg11 harg11 arg12 harg12 arg13 harg13 arg14 harg14 v12 (harg6.unread x4) X14 G_arg8 G_arg11 G_arg12 k0_t2_loop.trips le_rfl
  funext y
  have y0 : (y 0).val < 256 := (y 0).isLt
  have y1 : (y 1).val < 4096 := (y 1).isLt
  refine View.read_writes_apply_of_pieces _ _ _ _ ?_ y ?_
  · intro p hp z
    obtain ⟨k, grp, cc, rfl⟩ := h1 p hp
    have hk : k.val < 8 := Nat.lt_of_lt_of_eq k.isLt trips2
    exact dx_agree _ v12 x4 k.val grp cc z _ _ _ (unit_idx _ _ (eoff_inb k grp cc) z (eoff_eq k grp cc)) rfl (harg6.readAt_unread _ _ _) hk
  · have hk : (y 0).val / 32 < k0_t2_loop.trips := by rw [trips2]; omega
    refine ⟨_, h2 ⟨(y 0).val / 32, hk⟩ (Fin.ofNat 2 ((y 0).val / 16)) (Fin.ofNat 32 ((y 1).val / 128)) hk, ?_⟩
    refine (Rect.mem_set_unit (inb := eoff_inb _ _ _)).mpr fun d => ?_
    rw [eoff_eq]
    match d with
    | 0 =>
      show 32 * ((y 0).val / 32) + 16 * ((y 0).val / 16 % 2) ≤ (y 0).val ∧ (y 0).val < 32 * ((y 0).val / 32) + 16 * ((y 0).val / 16 % 2) + 16
      omega
    | 1 =>
      show 128 * ((y 1).val / 128 % 32) ≤ (y 1).val ∧ (y 1).val < 128 * ((y 1).val / 128 % 32) + 128
      omega

end Cert.KernelIdeal.Hand
end
-- ==== Proof.Setup.lean ====
module

public import proofs.«01_k».proof.Proof.Blocks
public import proofs.«01_k».proof.Proof.Gen.KernelIdeal.Frame
public import proofs.«01_k».proof.Proof.Gen.KernelIdeal.Skeleton
public import proofs.«01_k».proof.Proof.Gen.KernelIdeal.Loops

@[expose] public section
set_option maxRecDepth 16384

/-! What the two runs of the body share: its branch condition at a point, the staging buffers, and the
pieces of the inputs its plain loads read. -/

noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 192 := Nat.lt_of_lt_of_eq t.isLt N_0
    have e0 : (grid0.coords t 0).val = t.val / 4 % 48 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x16384 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x64 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x1024 .bf16 := Memref.whole cc0_scratch0
abbrev scM0_1 : Memref sig .tc .vmem S256x4096 .f32 := Memref.whole cc0_scratch1
/-- The scratch `arg13` the kernel carries between points, as a view: what it holds is stated through it. -/
abbrev VS0_0 : View sig .tc .vmem S256x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The columns of the weights a point multiplies by. -/
def wCols (i : grid0.Coords) (x5 : Vec F S1024x16384 .bf16) : Vec F S1024x4096 .bf16 := fun j =>
  x5 (mk2 (0 + (j 0).val) (4096 * (i 1).val + (j 1).val))
/-- The product's scale, as the body loads it. -/
def sAt (x1 : Vec F S8x128 .f32) : Vec F S1x1 .f32 := fun j => x1 (mk2 (0 + (j 0).val) (0 + (j 1).val))
/-- The result block a point leaves. -/
def outB (i : grid0.Coords) (dyv : Vec F S256x1024 .bf16) (x1 : Vec F S8x128 .f32) (x4 : Vec F S256x4096 .bf16) (x5 : Vec F S1024x16384 .bf16) :
    Vec F S256x4096 .bf16 := dxB (k0_pay3 dyv (wCols i x5)) (sAt x1) x4

/-- A load of all of a rank-two buffer is its contents. -/
theorem readAt_all {a b : ℕ} [NeZero a] [NeZero b] {e : EltTy} (v : View sig .tc .vmem ⟨2, ![a, b]⟩ e) (f : v.ty.Contents (Elt F))
    (inb : ∀ d, (![0, 0] : Fin 2 → ℕ) d + (⟨2, ![a, b]⟩ : Shape).size d ≤ (⟨2, ![a, b]⟩ : Shape).size d) :
    View.readAt (Elt F) v (Rect.unit (s := ⟨2, ![a, b]⟩) ![0, 0] (⟨2, ![a, b]⟩ : Shape).size inb).toLoadRect f = v.read (Elt F) f := by
  funext z
  show v.read (Elt F) f ((Rect.unit (s := ⟨2, ![a, b]⟩) ![0, 0] (⟨2, ![a, b]⟩ : Shape).size inb).emb z) = _
  congr 1
  rw [unit_idx _ _ inb z rfl]
  have z0 : (z 0).val < a := (z 0).isLt
  have z1 : (z 1).val < b := (z 1).isLt
  exact (eq_mk2 z (by rw [Nat.zero_add, Nat.mod_eq_of_lt z0]) (by rw [Nat.zero_add, Nat.mod_eq_of_lt z1])).symm

/-- Reading back one store of the whole of a rank-two buffer. -/
theorem read_write_all {a b : ℕ} [NeZero a] [NeZero b] {e : EltTy} (v : View sig .tc .vmem ⟨2, ![a, b]⟩ e) (f : v.ty.Contents (Elt F))
    (inb : ∀ d, (![0, 0] : Fin 2 → ℕ) d + (⟨2, ![a, b]⟩ : Shape).size d ≤ (⟨2, ![a, b]⟩ : Shape).size d)
    (x : Vec F ⟨2, ![a, b]⟩ e) :
    v.read (Elt F) (v.writes (Elt F) f [⟨Rect.unit (s := ⟨2, ![a, b]⟩) ![0, 0] (⟨2, ![a, b]⟩ : Shape).size inb, x⟩]) = x := by
  funext y
  refine View.read_writes_apply_of_pieces v f x _ ?_ y ⟨_, List.mem_singleton_self _, ?_⟩
  · intro p hp z
    obtain rfl := List.mem_singleton.mp hp
    have E : (Rect.unit (s := ⟨2, ![a, b]⟩) ![0, 0] (⟨2, ![a, b]⟩ : Shape).size inb).emb z = z := by
      rw [unit_idx _ _ inb z rfl]
      have z0 : (z 0).val < a := (z 0).isLt
      have z1 : (z 1).val < b := (z 1).isLt
      exact (eq_mk2 z (by rw [Nat.zero_add, Nat.mod_eq_of_lt z0]) (by rw [Nat.zero_add, Nat.mod_eq_of_lt z1])).symm
    exact (congrArg x E).symm
  · refine (Rect.mem_set_unit (inb := inb)).mpr fun d => ?_
    match d with
    | 0 => exact ⟨Nat.zero_le _, (y 0).isLt.trans_eq (Nat.zero_add _).symm⟩
    | 1 => exact ⟨Nat.zero_le _, (y 1).isLt.trans_eq (Nat.zero_add _).symm⟩

end Cert.KernelIdeal.Hand
end
-- ==== Proof.RunA.lean ====
module

public import proofs.«01_k».proof.Proof.Setup

@[expose] public section
set_option maxRecDepth 16384

/-! The body's run at a point that starts a row of blocks. -/

noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The body at a point that starts a row of blocks: on whole staging buffers, the inputs at their contents, it leaves
the decoded block in the carried scratch, the codes and the scales in their buffers, and the
result block in its own. -/
theorem runA (c : Dev nD) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (hc0 : cond0_0 i)
    (x0 : Vec F S8x128 .f32) (x1 : Vec F S8x128 .f32) (x2 : Vec F S256x1024 .bf16) (x3 : Vec F S256x1024 .i32) (x4 : Vec F S256x4096 .bf16) (x5 : Vec F S1024x16384 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outB i (dyvB x0 x2 x3) x1 x4 x5) ∗ owns (c : Thread nD τ) arg9 fullShare (codesB x0 x2 x3) ∗ owns (c : Thread nD τ) arg10 fullShare (scalesB x0 x2 x3) ∗ (∃ d, owns (c : Thread nD τ) arg11 fullShare d) ∗ (∃ d, owns (c : Thread nD τ) arg12 fullShare d) ∗ owns (c : Thread nD τ) arg13 fullShare (dyvB x0 x2 x3) ∗ (∃ d, owns (c : Thread nD τ) arg14 fullShare d)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14) K := by

  intro E K
  simp only [cc0_dgrad_eq_skeleton]; unfold cc0_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (read_dx _ _ _ _ _ _ _ _ _ _ _ _ _ _ _ _ _ _ _ _ _ _ _ _ _ _ _ _ _ _ _ _ _ _ _ _ _ rfl _).trans ?_
    unfold outB
    refine congr (congr (congrArg dxB ?_) ?_) rfl
    · refine (read_write_all _ _ _ _).trans ?_
      refine congr (congrArg k0_pay3 ?_) ?_
      · refine (readAt_all _ _ _).trans ?_
        refine (read_dyv _ _ _ _ _ _ _ _ _ _ _ _ _ _ _ _ _ _ _ _ _ _ _ _ _ _ _ _ _ _ _ _ _ _ _ _ rfl).trans (congrArg (fun w => dyvB w x2 x3) ?_)
        exact (readAt_all _ _ _).trans (harg2.read_unread _)
      · funext z
        exact (harg7.readAt_unread _ _ _).trans (congrArg x5 (unit_idx _ _ (k0_off22_inb i) z (k0_off22_eq i)))
    · funext z
      exact (harg3.readAt_unread _ _ _).trans (congrArg x1 (unit_idx _ _ inb_S8x128_S1x1_0_0 z rfl))
  isplitl [H7]
  · iexists _; isplitr; swap; · iexact H7
    ipureintro
    refine (read_codes _ _ _ _ _ _ _ _ _ _ _ _ _ _ _ _ _ _ _ _ _ _ _ _ _ _ _ _ _ _ _ _ _ _ _ _ rfl).trans (congrArg (fun w => codesB w x2 x3) ?_)
    exact (readAt_all _ _ _).trans (harg2.read_unread _)
  isplitl [H8]
  · iexists _; isplitr; swap; · iexact H8
    ipureintro
    refine (read_scales _ _ _ _ _ _ _ _ _ _ _ _ _ _ _ _ _ _ _ _ _ _ _ _ _ _ _ _ _ _ _ _ _ _ _ _ rfl).trans (congrArg (fun w => scalesB w x2 x3) ?_)
    exact (readAt_all _ _ _).trans (harg2.read_unread _)
  isplitl [H9]
  · iexists _, _; isplitr; swap; · iexact H9
    ipureintro; rfl
  isplitl [H10]
  · iexists _, _; isplitr; swap; · iexact H10
    ipureintro; rfl
  isplitl [HS0]
  · iexists _; isplitr; swap; · iexact HS0
    ipureintro
    refine (read_dyv _ _ _ _ _ _ _ _ _ _ _ _ _ _ _ _ _ _ _ _ _ _ _ _ _ _ _ _ _ _ _ _ _ _ _ _ rfl).trans (congrArg (fun w => dyvB w x2 x3) ?_)
    exact (readAt_all _ _ _).trans (harg2.read_unread _)
  iexists _, _; isplitr; swap; · iexact HS1
  ipureintro; rfl

end Cert.KernelIdeal.Hand
end
-- ==== Proof.RunB.lean ====
module

public import proofs.«01_k».proof.Proof.Setup

@[expose] public section
set_option maxRecDepth 16384

/-! The body's run at a point inside a row of blocks. -/

noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run's proof term is large
set_option maxHeartbeats 1000000 in
/-- The body at a point inside a row of blocks: on whole staging buffers, the inputs at their contents, it leaves
the carried scratch, the codes and the scales as they were, and the result block in its buffer. -/
theorem runB (c : Dev nD) (i : grid0.Coords) (arg2 : Memref sig .tc .vmem S8x128 .f32) (harg2 : arg2.IsWhole) (arg3 : Memref sig .tc .vmem S8x128 .f32) (harg3 : arg3.IsWhole) (arg4 : Memref sig .tc .vmem S256x1024 .bf16) (harg4 : arg4.IsWhole) (arg5 : Memref sig .tc .vmem S256x1024 .i32) (harg5 : arg5.IsWhole) (arg6 : Memref sig .tc .vmem S256x4096 .bf16) (harg6 : arg6.IsWhole) (arg7 : Memref sig .tc .vmem S1024x16384 .bf16) (harg7 : arg7.IsWhole) (arg8 : Memref sig .tc .vmem S256x4096 .bf16) (harg8 : arg8.IsWhole) (arg9 : Memref sig .tc .vmem S256x512 .i8) (harg9 : arg9.IsWhole) (arg10 : Memref sig .tc .vmem S256x64 .fp8e4m3) (harg10 : arg10.IsWhole) (arg11 : Memref sig .tc .vmem S256x4096 .fp8e4m3) (harg11 : arg11.IsWhole) (arg12 : Memref sig .tc .vmem S256x128 .f32) (harg12 : arg12.IsWhole) (arg13 : Memref sig .tc .vmem S256x1024 .bf16) (harg13 : arg13.IsWhole) (arg14 : Memref sig .tc .vmem S256x4096 .f32) (harg14 : arg14.IsWhole) (hc0 : ¬cond0_0 i)
    (x0 : Vec F S8x128 .f32) (x1 : Vec F S8x128 .f32) (x2 : Vec F S256x1024 .bf16) (x3 : Vec F S256x1024 .i32) (x4 : Vec F S256x4096 .bf16) (x5 : Vec F S1024x16384 .bf16) (xs0 : Vec F S256x1024 .bf16)
    (y7 : Vec F S256x512 .i8) (y8 : Vec F S256x64 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y7 ∗ owns (c : Thread nD τ) arg10 fullShare y8 ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outB i xs0 x1 x4 x5) ∗ owns (c : Thread nD τ) arg9 fullShare y7 ∗ owns (c : Thread nD τ) arg10 fullShare y8 ∗ (∃ d, owns (c : Thread nD τ) arg11 fullShare d) ∗ (∃ d, owns (c : Thread nD τ) arg12 fullShare d) ∗ owns (c : Thread nD τ) arg13 fullShare xs0 ∗ (∃ d, owns (c : Thread nD τ) arg14 fullShare d)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10 arg11 harg11 arg12 harg12 arg13 harg13 arg14 harg14) K := by

  intro E K
  simp only [cc0_dgrad_eq_skeleton]; unfold cc0_dgrad_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%d9, %f9, -, H9⟩, ⟨%d10, %f10, -, H10⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg13.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (read_dx _ _ _ _ _ _ _ _ _ _ _ _ _ _ _ _ _ _ _ _ _ _ _ _ _ _ _ _ _ _ _ _ _ _ _ _ _ rfl _).trans ?_
    unfold outB
    refine congr (congr (congrArg dxB ?_) ?_) rfl
    · refine (read_write_all _ _ _ _).trans ?_
      refine congr (congrArg k0_pay3 ?_) ?_
      · exact (readAt_all _ _ _).trans (harg13.read_unread _)
      · funext z
        exact (harg7.readAt_unread _ _ _).trans (congrArg x5 (unit_idx _ _ (k0_off22_inb i) z (k0_off22_eq i)))
    · funext z
      exact (harg3.readAt_unread _ _ _).trans (congrArg x1 (unit_idx _ _ inb_S8x128_S1x1_0_0 z rfl))
  isplitl [H7]
  · iexists _; isplitr; swap; · iexact H7
    ipureintro; exact hf7
  isplitl [H8]
  · iexists _; isplitr; swap; · iexact H8
    ipureintro; exact hf8
  isplitl [H9]
  · iexists _, _; isplitr; swap; · iexact H9
    ipureintro; rfl
  isplitl [H10]
  · iexists _, _; isplitr; swap; · iexact H10
    ipureintro; rfl
  isplitl [HS0]
  · iexists _; isplitr; · ipureintro; exact harg13.read_unread _
    iexact HS0
  iexists _, _; isplitr; swap; · iexact HS1
  ipureintro; rfl

end Cert.KernelIdeal.Hand
end
-- ==== Proof.Region.lean ====
module

public import Idealize.ShloMosaic.Lib.Pipeline.TableIdle
public import proofs.«01_k».proof.Proof.RunA
public import proofs.«01_k».proof.Proof.RunB

@[expose] public section
set_option maxRecDepth 16384

/-! The run of the whole launch: what each buffer holds after each point, the body at a point by its two
runs, and the launch's final state. -/

noncomputable section
namespace Cert.KernelIdeal.Hand
open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's predecessor. -/
abbrev prev (t : Fin cfg0.N) : Fin cfg0.N := ⟨t.val - 1, Nat.lt_of_le_of_lt (Nat.sub_le _ _) t.isLt⟩

/-- The decoded block of a point's row. -/
def dyvAt (c : Dev nD) (t : Fin cfg0.N) : Vec F S256x1024 .bf16 := dyvB (iblk m c 0 t) (iblk m c 2 t) (iblk m c 3 t)
/-- The codes block of a point's row. -/
def codesAt (c : Dev nD) (t : Fin cfg0.N) : Vec F S256x512 .i8 := codesB (iblk m c 0 t) (iblk m c 2 t) (iblk m c 3 t)
/-- The scales block of a point's row. -/
def scalesAt (c : Dev nD) (t : Fin cfg0.N) : Vec F S256x64 .fp8e4m3 := scalesB (iblk m c 0 t) (iblk m c 2 t) (iblk m c 3 t)
/-- The result block of a point. -/
def outAt (c : Dev nD) (t : Fin cfg0.N) : Vec F S256x4096 .bf16 :=
  outB (grid0.coords t) (dyvAt m c t) (iblk m c 1 t) (iblk m c 4 t) (iblk m c 5 t)

/-- The invariant before position `n`: the carried scratch, after the first point, at the decoded block of the
point before; the other scratch at anything. -/
def PhiS (c : Dev nD) : (n : ℕ) → n ≤ cfg0.N → sProp 𝕄
  | 0, _ => Pipeline.ΦA spec0 c
  | n + 1, hn => iprop(iprop(owns (c : Thread nD τ) scM0_0 fullShare (dyvAt m c ⟨n, hn⟩) ∗ (∃ d, owns (c : Thread nD τ) scM0_1 fullShare d)) ∗ (∃ r, prngReg c r))
/-- Before the first point. -/
theorem PhiS_zero (c : Dev nD) (n : ℕ) (h : n ≤ cfg0.N) (hz : n = 0) : PhiS m c n h = Pipeline.ΦA spec0 c := by
  subst hz; rfl
/-- After a point. -/
theorem PhiS_succ (c : Dev nD) (n : ℕ) (hn : n < cfg0.N) :
    PhiS m c (n + 1) hn = iprop(iprop(owns (c : Thread nD τ) scM0_0 fullShare (dyvAt m c ⟨n, hn⟩) ∗ (∃ d, owns (c : Thread nD τ) scM0_1 fullShare d)) ∗ (∃ r, prngReg c r)) := rfl
/-- Before a point that is not the first. -/
theorem PhiS_pos (c : Dev nD) (n : ℕ) (h : n ≤ cfg0.N) (hz : n ≠ 0) :
    PhiS m c n h = iprop(iprop(owns (c : Thread nD τ) scM0_0 fullShare (dyvAt m c ⟨n - 1, by omega⟩) ∗ (∃ d, owns (c : Thread nD τ) scM0_1 fullShare d)) ∗ (∃ r, prngReg c r)) := by
  cases n with
  | zero => exact absurd rfl hz
  | succ n => rfl

/-- The windows of which nothing is stated: the two of the second quantiser. -/
def forgets0 : Fin 11 → Bool := fun w => w.val == 9 || w.val == 10

/-- The launch's proof data: the inputs' buffers keep their blocks, the three outputs hold the named blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => codesAt m c t
    | ⟨8, _⟩ => scalesAt m c t
    | ⟨9, h⟩ => Pipeline.Dat.unnamed (cfg := cfg0) ⟨9, h⟩ t
    | ⟨10, h⟩ => Pipeline.Dat.unnamed (cfg := cfg0) ⟨10, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves, window by window. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = outAt m c t := by dsimp only [dats]
/-- What the body leaves in window 7. -/
theorem after0_7 (c : Dev nD) (t : Fin cfg0.N) : (dats m 0 c).after 7 t = codesAt m c t := by dsimp only [dats]
/-- What the body leaves in window 8. -/
theorem after0_8 (c : Dev nD) (t : Fin cfg0.N) : (dats m 0 c).after 8 t = scalesAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d

/-- Output 6 is never idle. -/
theorem liveAt0_6 : ∀ t : Fin cfg0.N, cfg0.idle 6 (grid0.coords t) = false := fun _ => rfl
/-- The points of a row of blocks other than its first leave the codes and the scales idle. -/
theorem idleAt (t : Fin cfg0.N) : cfg0.idle 7 (grid0.coords t) = !decide (t.val % 4 = 0) ∧ cfg0.idle 8 (grid0.coords t) = !decide (t.val % 4 = 0) := by
  have h : (k0_cond1 (grid0.coords t) == 1#1) = decide (t.val % 4 = 0) :=
    Bool.eq_iff_iff.mpr (beq_iff_eq.trans ((hcond0_0 t).trans decide_eq_true_iff.symm))
  exact ⟨congrArg (fun b => !b) h, congrArg (fun b => !b) h⟩
/-- So their buffers are fresh exactly at a row's first point. -/
theorem freshAt : (∀ n, n ≤ cfg0.N → cfg0.fresh 7 n = decide (n % 4 = 0)) ∧ (∀ n, n ≤ cfg0.N → cfg0.fresh 8 n = decide (n % 4 = 0)) := by
  have step : ∀ (t : ℕ) (fl : Bool), (fl = true ↔ (t % 4 = 3)) →
      decide ((t + 1) % 4 = 0) = (fl || (!decide (t % 4 = 0) && decide (t % 4 = 0))) := by
    intro t fl h
    cases fl
    · have : ¬ t % 4 = 3 := fun q => by simpa using h.mpr q
      simp; omega
    · have : t % 4 = 3 := h.mp rfl
      simp; omega
  exact ⟨Pipeline.Cfg.fresh_tab cfg0 7 _ rfl fun t => by rw [(idleAt t).1]; exact step _ _ (flush0_7 t),
    Pipeline.Cfg.fresh_tab cfg0 8 _ rfl fun t => by rw [(idleAt t).2]; exact step _ _ (flush0_8 t)⟩

/-- Inside a row of blocks the blocks the first loop reads are the point before's. -/
theorem iblk_prev (c : Dev nD) (t : Fin cfg0.N) (h : ¬ t.val % 4 = 0) :
    iblk m c 0 t = iblk m c 0 (prev t) ∧ iblk m c 2 t = iblk m c 2 (prev t) ∧ iblk m c 3 t = iblk m c 3 (prev t) := by
  have f0 : (cfg0.win 0).fetch t = false := Bool.eq_false_iff.mpr fun q => by have := (fetch0_0 t).mp q; omega
  have f2 : (cfg0.win 2).fetch t = false := Bool.eq_false_iff.mpr fun q => h ((fetch0_2 t).mp q)
  have f3 : (cfg0.win 3).fetch t = false := Bool.eq_false_iff.mpr fun q => h ((fetch0_3 t).mp q)
  obtain ⟨ht, h0⟩ := (cfg0.win 0).index_eq_of_fetch rfl t f0
  obtain ⟨_, h2⟩ := (cfg0.win 2).index_eq_of_fetch rfl t f2
  obtain ⟨_, h3⟩ := (cfg0.win 3).index_eq_of_fetch rfl t f3
  refine ⟨?_, ?_, ?_⟩
  · exact (dats m 0 c).fetched_congr 0 (t := t) (t' := prev t) h0 rfl (iblk m c 0 t)
  · exact (dats m 0 c).fetched_congr 2 (t := t) (t' := prev t) h2 rfl (iblk m c 2 t)
  · exact (dats m 0 c).fetched_congr 3 (t := t) (t' := prev t) h3 rfl (iblk m c 3 t)
/-- So the decoded block, the codes and the scales are the point before's. -/
theorem row_prev (c : Dev nD) (t : Fin cfg0.N) (h : ¬ t.val % 4 = 0) :
    dyvAt m c (prev t) = dyvAt m c t ∧ codesAt m c (prev t) = codesAt m c t ∧ scalesAt m c (prev t) = scalesAt m c t := by
  obtain ⟨h0, h2, h3⟩ := iblk_prev m c t h
  unfold dyvAt codesAt scalesAt
  rw [h0, h2, h3]
  exact ⟨rfl, rfl, rfl⟩

/-- Inside a row of blocks the codes buffer holds the row's codes. -/
theorem before0_7_B (c : Dev nD) (t : Fin cfg0.N) (h : ¬ t.val % 4 = 0) (d) : (dats m 0 c).before 7 t d = codesAt m c t := by
  rw [Dat.before_out_traj _ 7 rfl (fun _ _ => rfl) (fun t _ hi _ => ?_) t.val t rfl d,
    if_neg (by rw [freshAt.1 t.val (Nat.le_of_lt t.isLt)]; simpa using h)]
  · exact (after0_7 m c _).trans (row_prev m c t h).2.1
  · rw [(idleAt t).1] at hi
    exact (after0_7 m c t).trans ((row_prev m c t (by simpa using hi)).2.1.symm.trans (after0_7 m c _).symm)
/-- At a row's first point the codes are what the body leaves there; -/
theorem leaves7_A (c : Dev nD) (t : Fin cfg0.N) (h : t.val % 4 = 0) :
    (dats m 0 c).leavesExact 7 t = owns (c : Thread nD τ) (ms0_7 t) fullShare (codesAt m c t) := by
  have hi : cfg0.idle 7 (grid0.coords t) = false := by rw [(idleAt t).1]; simpa using h
  unfold Dat.leavesExact; rw [hi, after0_7]
/-- at the others the body hands the buffer back with the row's codes. -/
theorem leaves7_B (c : Dev nD) (t : Fin cfg0.N) (h : ¬ t.val % 4 = 0) :
    owns (c : Thread nD τ) (ms0_7 t) fullShare (codesAt m c t) ⊢ (dats m 0 c).leavesExact 7 t := by
  have hi : cfg0.idle 7 (grid0.coords t) = true := by rw [(idleAt t).1]; simpa using h
  cases hf : (cfg0.win 7).flush t
  · rw [Dat.leavesExact_idle _ 7 t hi hf]
    iintro H
    iexists (fun _ => default)
    rw [before0_7_B m c t h]
    iexact H
  · unfold Dat.leavesExact; rw [hi, hf, after0_7]
/-- Inside a row of blocks the scales buffer holds the row's scales. -/
theorem before0_8_B (c : Dev nD) (t : Fin cfg0.N) (h : ¬ t.val % 4 = 0) (d) : (dats m 0 c).before 8 t d = scalesAt m c t := by
  rw [Dat.before_out_traj _ 8 rfl (fun _ _ => rfl) (fun t _ hi _ => ?_) t.val t rfl d,
    if_neg (by rw [freshAt.2 t.val (Nat.le_of_lt t.isLt)]; simpa using h)]
  · exact (after0_8 m c _).trans (row_prev m c t h).2.2
  · rw [(idleAt t).2] at hi
    exact (after0_8 m c t).trans ((row_prev m c t (by simpa using hi)).2.2.symm.trans (after0_8 m c _).symm)
/-- At a row's first point the scales are what the body leaves there; -/
theorem leaves8_A (c : Dev nD) (t : Fin cfg0.N) (h : t.val % 4 = 0) :
    (dats m 0 c).leavesExact 8 t = owns (c : Thread nD τ) (ms0_8 t) fullShare (scalesAt m c t) := by
  have hi : cfg0.idle 8 (grid0.coords t) = false := by rw [(idleAt t).2]; simpa using h
  unfold Dat.leavesExact; rw [hi, after0_8]
/-- at the others the body hands the buffer back with the row's scales. -/
theorem leaves8_B (c : Dev nD) (t : Fin cfg0.N) (h : ¬ t.val % 4 = 0) :
    owns (c : Thread nD τ) (ms0_8 t) fullShare (scalesAt m c t) ⊢ (dats m 0 c).leavesExact 8 t := by
  have hi : cfg0.idle 8 (grid0.coords t) = true := by rw [(idleAt t).2]; simpa using h
  cases hf : (cfg0.win 8).flush t
  · rw [Dat.leavesExact_idle _ 8 t hi hf]
    iintro H
    iexists (fun _ => default)
    rw [before0_8_B m c t h]
    iexact H
  · unfold Dat.leavesExact; rw [hi, hf, after0_8]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d))
/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d))

set_option maxHeartbeats 9600000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  by_cases h0 : t.val % 4 = 0
  · rw [leaves7_A m c t h0, leaves8_A m c t h0]
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (runA c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexists _; iexact HS0
      isplitl [HS1]; · iexact HS1
      iintro ⟨H0, H1, H2, H3, H4, H5, H6, H7, H8, H9, H10, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
  · have hz : t.val ≠ 0 := fun q => h0 (by rw [q])
    rw [PhiS_castSucc m c t, PhiS_pos m c _ _ hz, show dyvAt m c ⟨t.val - 1, by omega⟩ = dyvAt m c t from (row_prev m c t h0).1]
    simp only [before0_7_B m c t h0, before0_8_B m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (runB c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (dyvAt m c t) (codesAt m c t) (scalesAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves7_B m c t h0); iexact H7
    isplitl [H8]; · iapply (leaves8_B m c t h0); iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_track_forget`'s implicit arguments are found by unifying its conclusion with this one, which takes unfolding plain
-- definitions in a metavariable's type
set_option backward.isDefEq.respectTransparency.types false in
/-- THE LAUNCH: the final state's contents, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run, without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end as they began, in any final state the launch's proof data describe. -/
theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 2 rfl).trans ((hA c 2).trans (V_main_arg0 m c)),
      (Pipeline.RDat.FramePost.arr_in h c 4 rfl).trans ((hA c 4).trans (V_main_arg1 m c)),
      (Pipeline.RDat.FramePost.arr_in h c 3 rfl).trans ((hA c 3).trans (V_main_arg2 m c)),
      (Pipeline.RDat.FramePost.arr_in h c 5 rfl).trans ((hA c 5).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frameR_of m ρ (fun c => (dats m 0 c).toRForget forgets0) (A_eq m) (run_main m ρ)

/-- The frame claim at any values: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand
end
-- ==== Proof.Lanes.lean ====
module

public import proofs.«01_k».proof.Proof.Trip
public import Idealize.ShloMosaic.Lib.Pointwise

@[expose] public section
set_option maxRecDepth 16384

/-! Lane gathers and the merge tree, element by element at the extended reals. -/

noncomputable section
namespace Cert.KernelIdeal.Hand
open Idealize.ShloMosaic Idealize.ShloMosaic.TcCoe Cert.KernelIdeal Cert.KernelIdeal.Gen

/-- A lane gather whose index is in range reads that lane. -/
theorem gat8_at {α : Type} (x : S8x128.Idx → α) (i : IVec S8x128 32) (r : Fin 8) (l n : Fin 128)
    (h : i (ix2 r l) = BitVec.ofNat 32 n.val) : gat8 x i (ix2 r l) = x (ix2 r n) := by
  have key : ∀ n : Fin 128, (Scalar.select (IntOp.cmpi .slt (BitVec.ofNat 32 n.val) 0#32)
      (IntOp.addi (BitVec.ofNat 32 n.val) 128#32) (BitVec.ofNat 32 n.val)).toNat % 128 = n.val := by decide +kernel
  pointwise [gat8, wrap8]
  refine congrArg (fun k => x (ix2 r k)) (Fin.ext ?_)
  show (Scalar.select (IntOp.cmpi .slt (i (ix2 r l)) 0#32) (IntOp.addi (i (ix2 r l)) 128#32) (i (ix2 r l))).toNat % 128 = n.val
  rw [h]; exact key n
/-- The same over 16 rows. -/
theorem gat16_at {α : Type} (x : S16x128.Idx → α) (i : IVec S16x128 32) (r : Fin 16) (l n : Fin 128)
    (h : i (ix2 r l) = BitVec.ofNat 32 n.val) : gat16 x i (ix2 r l) = x (ix2 r n) := by
  have key : ∀ n : Fin 128, (Scalar.select (IntOp.cmpi .slt (BitVec.ofNat 32 n.val) 0#32)
      (IntOp.addi (BitVec.ofNat 32 n.val) 128#32) (BitVec.ofNat 32 n.val)).toNat % 128 = n.val := by decide +kernel
  pointwise [gat16, wrap16]
  refine congrArg (fun k => x (ix2 r k)) (Fin.ext ?_)
  show (Scalar.select (IntOp.cmpi .slt (i (ix2 r l)) 0#32) (IntOp.addi (i (ix2 r l)) 128#32) (i (ix2 r l))).toNat % 128 = n.val
  rw [h]; exact key n

/-- Lane `16 q + t`. -/
def ln (q : Fin 8) (t : Fin 16) : Fin 128 := ⟨16 * q.val + t.val, by omega⟩

/-- One merge: the tile the lane's bit chooses, at the lane and at its partner. -/
theorem mergeStep_at (d : Fin 16) (hd : d = 1 ∨ d = 2 ∨ d = 4 ∨ d = 8) (a b : FVec Ideal S16x128 .f32) (r : Fin 16) (q : Fin 8) (t : Fin 16) :
    mergeStep (BitVec.ofNat 32 d.val) a b (ix2 r (ln q t))
      = if t &&& d = 0 then max (a (ix2 r (ln q t))) (a (ix2 r (ln q (t ^^^ d))))
        else max (b (ix2 r (ln q t))) (b (ix2 r (ln q (t ^^^ d)))) := by
  have key : ∀ (q : Fin 8) (t d : Fin 16), (d = 1 ∨ d = 2 ∨ d = 4 ∨ d = 8) →
      IntOp.cmpi .ne (IntOp.andi (BitVec.ofNat 32 (ln q t).val) (BitVec.ofNat 32 d.val)) 0#32 = BitVec.ofBool (decide (t &&& d ≠ 0))
      ∧ IntOp.xori (BitVec.ofNat 32 (ln q t).val) (BitVec.ofNat 32 d.val) = BitVec.ofNat 32 (ln q (t ^^^ d)).val
      ∧ ((t ^^^ d) &&& d = 0 ↔ t &&& d ≠ 0) := by decide +kernel
  obtain ⟨k1, k2, k3⟩ := key q t d hd
  obtain ⟨k1', -, -⟩ := key q (t ^^^ d) d hd
  have hg : ∀ x : FVec Ideal S16x128 .f32, gat16 x (xori lane16 (broadcast S16x128 (BitVec.ofNat 32 d.val))) (ix2 r (ln q t)) = x (ix2 r (ln q (t ^^^ d))) :=
    fun x => gat16_at x _ r (ln q t) (ln q (t ^^^ d)) (by pointwise [lane16]; exact k2)
  show FloatOps.maximumf _ (gat16 _ _ _) = _
  rw [hg]
  pointwise [lane16]
  rw [k1, k1']
  by_cases h : t &&& d = 0
  · have h' : ¬ ((t ^^^ d) &&& d = 0) := fun e => (k3.mp e) h
    simp [Scalar.select, h, h']
  · have h' : ((t ^^^ d) &&& d = 0) := k3.mpr h
    simp [Scalar.select, h, h']

/-- The row group and the column group of the block in lane `16 q + t`. -/
def grpOf (t : Fin 16) : Fin 2 := ⟨t.val % 2, by omega⟩
/-- Its column group. -/
def colOf (t : Fin 16) : Fin 8 := ⟨t.val / 2, by omega⟩

/-- A lane and its fifteen partners are the sixteen lanes. -/
theorem tree_le (P : Fin 16 → Prop) (t : Fin 16) :
    ((((P t ∧ P (t ^^^ 8)) ∧ (P (t ^^^ 4) ∧ P (t ^^^ 4 ^^^ 8))) ∧ ((P (t ^^^ 2) ∧ P (t ^^^ 2 ^^^ 8)) ∧ (P (t ^^^ 2 ^^^ 4) ∧ P (t ^^^ 2 ^^^ 4 ^^^ 8)))) ∧ (((P (t ^^^ 1) ∧ P (t ^^^ 1 ^^^ 8)) ∧ (P (t ^^^ 1 ^^^ 4) ∧ P (t ^^^ 1 ^^^ 4 ^^^ 8))) ∧ ((P (t ^^^ 1 ^^^ 2) ∧ P (t ^^^ 1 ^^^ 2 ^^^ 8)) ∧ (P (t ^^^ 1 ^^^ 2 ^^^ 4) ∧ P (t ^^^ 1 ^^^ 2 ^^^ 4 ^^^ 8)))))
      ↔ ∀ d : Fin 16, P d := by
  have cover : ∀ t d : Fin 16, d = t ∨ d = t ^^^ 8 ∨ d = t ^^^ 4 ∨ d = t ^^^ 4 ^^^ 8 ∨ d = t ^^^ 2 ∨ d = t ^^^ 2 ^^^ 8 ∨ d = t ^^^ 2 ^^^ 4 ∨ d = t ^^^ 2 ^^^ 4 ^^^ 8 ∨ d = t ^^^ 1 ∨ d = t ^^^ 1 ^^^ 8 ∨ d = t ^^^ 1 ^^^ 4 ∨ d = t ^^^ 1 ^^^ 4 ^^^ 8 ∨ d = t ^^^ 1 ^^^ 2 ∨ d = t ^^^ 1 ^^^ 2 ^^^ 8 ∨ d = t ^^^ 1 ^^^ 2 ^^^ 4 ∨ d = t ^^^ 1 ^^^ 2 ^^^ 4 ^^^ 8 := by
    decide +kernel
  constructor
  · intro H d
    rcases cover t d with h | h | h | h | h | h | h | h | h | h | h | h | h | h | h | h <;> subst h <;> simp only [H]
  · intro H
    simp only [H, and_self]

/-- Lane `16 q + t` of the merge tree holds the maximum over the sixteen lanes `16 q + d` of the tile of row
group `t % 2` and column group `t / 2`. -/
theorem amaxTile_at (X : Fin 2 → Fin 8 → Vec Ideal S16x128 .bf16) (r : Fin 16) (q : Fin 8) (t : Fin 16) :
    amaxTile X (ix2 r (ln q t))
      = Finset.univ.fold max ⊥ fun d : Fin 16 => magTile X (grpOf t) (colOf t) (ix2 r (ln q d)) := by
  have m8 := fun a b r q t => mergeStep_at 8 (by decide) a b r q t
  have m4 := fun a b r q t => mergeStep_at 4 (by decide) a b r q t
  have m2 := fun a b r q t => mergeStep_at 2 (by decide) a b r q t
  have m1 := fun a b r q t => mergeStep_at 1 (by decide) a b r q t
  simp only [show BitVec.ofNat 32 (8 : Fin 16).val = 8#32 from rfl, show BitVec.ofNat 32 (4 : Fin 16).val = 4#32 from rfl,
    show BitVec.ofNat 32 (2 : Fin 16).val = 2#32 from rfl, show BitVec.ofNat 32 (1 : Fin 16).val = 1#32 from rfl] at m8 m4 m2 m1
  refine eq_of_forall_ge_iff fun c => ?_
  rw [Finset.fold_max_le]
  simp only [amaxTile, mrg2, mrg4, mrg8, m8, m4, m2, m1, bot_le, true_and, Finset.mem_univ, true_implies]
  fin_cases t <;> simp (decide := true) only [if_true, if_false, max_le_iff] <;>
    exact tree_le (fun d => magTile X _ _ (ix2 r (ln q d)) ≤ c) _

end Cert.KernelIdeal.Hand
end
-- ==== Proof.Quant.lean ====
module

public import Idealize.ShloMosaic.Lib.Pointwise

@[expose] public section
set_option maxRecDepth 16384

/-! The four-bit quantiser of one element at the extended reals, in the kernel's form (count steps,
round the count, multiply back) and in the reference's (round down to a representable value, add a
step), and that the two give the same value and the same code. -/

noncomputable section
namespace Cert.Quant
open Idealize.ShloMosaic

/-! ## Constants -/

/-- The constant two. -/
theorem c2 : Ideal.ofBits .f32 0x40000000#32 = ((2 : ℝ) : EReal) := by
  simp [Ideal.ofBits, Ideal.ieee, -EReal.coe_mul]; norm_num
/-- The constant four. -/
theorem c4 : Ideal.ofBits .f32 0x40800000#32 = ((4 : ℝ) : EReal) := by
  simp [Ideal.ofBits, Ideal.ieee, -EReal.coe_mul]; norm_num
/-- The constant six. -/
theorem c6 : Ideal.ofBits .f32 0x40C00000#32 = ((6 : ℝ) : EReal) := by
  simp [Ideal.ofBits, Ideal.ieee, -EReal.coe_mul]; norm_num
/-- The constant seven. -/
theorem c7 : Ideal.ofBits .f32 0x40E00000#32 = ((7 : ℝ) : EReal) := by
  simp [Ideal.ofBits, Ideal.ieee, -EReal.coe_mul]; norm_num
/-- The constant one half. -/
theorem chalf : Ideal.ofBits .f32 0x3F000000#32 = ((1 / 2 : ℝ) : EReal) := by
  simp [Ideal.ofBits, Ideal.ieee, -EReal.coe_mul]; norm_num
/-- The constant two to the power -24. -/
theorem cu : Ideal.ofBits .f32 0x33800000#32 = ((1 / 2 ^ 24 : ℝ) : EReal) := by
  simp [Ideal.ofBits, Ideal.ieee, -EReal.coe_mul]; norm_num

/-! ## The kernel's form -/

/-- A choice by the magnitude's segment. -/
def segS (a l m h : EReal) : EReal := if a < ((2 : ℝ) : EReal) then l else if a < ((4 : ℝ) : EReal) then m else h
/-- The saturated magnitude. -/
def aS (v : EReal) : EReal := min (FloatOps.absf (F := Ideal) (φ := .f32) v) ((6 : ℝ) : EReal)
/-- The random number. -/
def uS (b : BitVec 32) : EReal :=
  FloatOps.sitofp (F := Ideal) .f32 (IntOp.shrui .vector b 8#32) * ((1 / 2 ^ 24 : ℝ) : EReal)
/-- The magnitude in steps. -/
def wS (a : EReal) : EReal := a * segS a ((2 : ℝ) : EReal) 1 ((1 / 2 : ℝ) : EReal)
/-- The rounded number of steps. -/
def qiS (a u : EReal) : EReal :=
  if u < wS a - Ideal.liftRound Int.floor (wS a) then Ideal.liftRound Int.floor (wS a) + 1
  else Ideal.liftRound Int.floor (wS a)
/-- The rounded magnitude. -/
def qS (a u : EReal) : EReal := qiS a u * segS a ((1 / 2 : ℝ) : EReal) 1 ((2 : ℝ) : EReal)
/-- The magnitude code. -/
def magS (a u : EReal) : BitVec 32 :=
  FloatOps.fptosi (F := Ideal) (φ := .f32) 32 (qiS a u + segS a 0 ((2 : ℝ) : EReal) ((4 : ℝ) : EReal))
/-- The sign bit. -/
def negS (v : EReal) (q : EReal) : BitVec 1 :=
  IntOp.andi (BitVec.ofBool (decide (v < 0))) (BitVec.ofBool (decide (0 < q)))
/-- The code of a scaled value. -/
def nibS (v : EReal) (b : BitVec 32) : BitVec 32 :=
  Scalar.select (negS v (qS (aS v) (uS b))) (IntOp.ori (magS (aS v) (uS b)) 8#32) (magS (aS v) (uS b))
/-- The decoded value of a scaled value, unscaled. -/
def valS (v : EReal) (b : BitVec 32) : EReal :=
  Scalar.select (negS v (qS (aS v) (uS b))) (0 - qS (aS v) (uS b)) (qS (aS v) (uS b))

/-! ## The reference's form -/

/-- The largest representable value not above the magnitude. -/
def loR (a : EReal) : EReal :=
  if a < ((2 : ℝ) : EReal) then Ideal.liftRound Int.floor (a * ((2 : ℝ) : EReal)) * ((1 / 2 : ℝ) : EReal)
  else if a < ((4 : ℝ) : EReal) then Ideal.liftRound Int.floor a
  else ((4 : ℝ) : EReal) + ((2 : ℝ) : EReal) * Ideal.liftRound Int.floor ((a - ((4 : ℝ) : EReal)) * ((1 / 2 : ℝ) : EReal))
/-- The rounded magnitude. -/
def qR (a u : EReal) : EReal :=
  if u < (a - loR a) * segS a ((2 : ℝ) : EReal) 1 ((1 / 2 : ℝ) : EReal)
  then loR a + segS a ((1 / 2 : ℝ) : EReal) 1 ((2 : ℝ) : EReal) else loR a
/-- The magnitude code of a rounded magnitude. -/
def magR (q : EReal) : BitVec 32 :=
  FloatOps.fptosi (F := Ideal) (φ := .f32) 32
    (if q < ((2 : ℝ) : EReal) then q * ((2 : ℝ) : EReal) else if q < ((4 : ℝ) : EReal) then q + ((2 : ℝ) : EReal)
      else if q = ((4 : ℝ) : EReal) then ((6 : ℝ) : EReal) else ((7 : ℝ) : EReal))

/-! ## The two agree -/

/-- The saturated magnitude is a real between zero and six. -/
theorem aS_real (v : EReal) : ∃ a : ℝ, aS v = (a : EReal) ∧ 0 ≤ a ∧ a ≤ 6 := by
  have h0 : (0 : EReal) ≤ aS v := by
    refine le_min ?_ (by exact_mod_cast (by norm_num : (0 : ℝ) ≤ 6))
    show (0 : EReal) ≤ max v (-v)
    rcases le_total 0 v with h | h
    · exact le_max_of_le_left h
    · exact le_max_of_le_right (by simpa using EReal.neg_le_neg_iff.mpr h)
  have h6 : aS v ≤ ((6 : ℝ) : EReal) := min_le_right _ _
  generalize aS v = a at h0 h6
  induction a with
  | bot => simp at h0
  | top => simp at h6
  | coe a => exact ⟨a, rfl, by exact_mod_cast h0, by exact_mod_cast h6⟩

/-- The random number is a real, not negative. -/
theorem uS_real (b : BitVec 32) : ∃ u : ℝ, uS b = (u : EReal) ∧ 0 ≤ u := by
  have hb : 0 ≤ (IntOp.shrui .vector b 8#32).toInt := by
    have : (IntOp.shrui .vector b 8#32) = b >>> 8 := by simp [IntOp.shrui]
    rw [this]
    have h : (b >>> 8).msb = false := by simp [BitVec.msb_eq_getLsbD_last]
    rw [BitVec.toInt_eq_toNat_of_msb h]; positivity
  refine ⟨((IntOp.shrui .vector b 8#32).toInt : ℝ) * (1 / 2 ^ 24), ?_, by positivity⟩
  rw [EReal.coe_mul]; rfl

/-- A small integer converts to itself. -/
theorem fptosi_int (n : ℤ) (hn : 0 ≤ n) (hn' : n < 8) (x : EReal) (hx : x = (((n : ℝ) : ℝ) : EReal)) :
    FloatOps.fptosi (F := Ideal) (φ := .f32) 32 x = BitVec.ofInt 32 n := by
  subst hx
  show Ideal.fptosi 32 ((n : ℝ) : EReal) = _
  rw [Ideal.fptosi, Ideal.toIntClamped_coe]
  have : (0 : ℝ) ≤ n := by exact_mod_cast hn
  rw [if_pos this, Int.floor_intCast]
  congr 1; norm_num; omega

/-- The code of a rounded magnitude below two. -/
theorem magR_low (k : ℤ) (h0 : 0 ≤ k) (h4 : k ≤ 4) : magR (((k : ℝ) * (1 / 2) : ℝ) : EReal) = BitVec.ofInt 32 k := by
  refine fptosi_int k h0 (by omega) _ ?_
  simp only [← EReal.coe_mul, ← EReal.coe_add, EReal.coe_lt_coe_iff, EReal.coe_eq_coe_iff]
  interval_cases k <;> norm_num <;> norm_cast
/-- The code of a rounded magnitude from two to four. -/
theorem magR_mid (k : ℤ) (h0 : 2 ≤ k) (h4 : k ≤ 4) : magR ((k : ℝ) : EReal) = BitVec.ofInt 32 (k + 2) := by
  refine fptosi_int (k + 2) (by omega) (by omega) _ ?_
  simp only [← EReal.coe_mul, ← EReal.coe_add, EReal.coe_lt_coe_iff, EReal.coe_eq_coe_iff]
  interval_cases k <;> norm_num <;> norm_cast
/-- The code of a rounded magnitude from four on. -/
theorem magR_high (k : ℤ) (h0 : 2 ≤ k) (h4 : k ≤ 3) : magR (((k : ℝ) * 2 : ℝ) : EReal) = BitVec.ofInt 32 (k + 4) := by
  refine fptosi_int (k + 4) (by omega) (by omega) _ ?_
  simp only [← EReal.coe_mul, ← EReal.coe_add, EReal.coe_lt_coe_iff, EReal.coe_eq_coe_iff]
  interval_cases k <;> norm_num <;> norm_cast

/-- The value and the code of the number of steps, over the reals. -/
theorem core (a u : ℝ) (h0 : 0 ≤ a) (h6 : a ≤ 6) (hu : 0 ≤ u) :
    qR a u = qS a u ∧ magR (qS a u) = magS a u ∧ (magS a u).toNat < 8 ∧ (0 < qiS a u ↔ 0 < qS a u) := by
  have e1 : (1 : EReal) = ((1 : ℝ) : EReal) := rfl
  have e0 : (0 : EReal) = ((0 : ℝ) : EReal) := rfl
  by_cases h2 : a < 2
  · -- steps of a half
    have hq : ∃ k : ℤ, 0 ≤ k ∧ k ≤ 4 ∧ qiS a u = ((k : ℝ) : EReal) ∧ qR a u = (((k : ℝ) * (1 / 2) : ℝ) : EReal) := by
      simp only [qR, qiS, wS, segS, loR, EReal.coe_lt_coe_iff, if_pos h2, e1, e0, ← EReal.coe_mul, ← EReal.coe_add,
        ← EReal.coe_sub, Ideal.liftRound_coe, EReal.coe_lt_coe_iff]
      have hn := Int.floor_le (a * 2); have hn' := Int.lt_floor_add_one (a * 2)
      generalize ⌊a * 2⌋ = n at hn hn'
      have b0 : -1 < n := by exact_mod_cast (by push_cast; linarith : ((-1 : ℤ) : ℝ) < n)
      have b4 : n < 4 := by exact_mod_cast (by push_cast; linarith : (n : ℝ) < ((4 : ℤ) : ℝ))
      have hf : (a - (n : ℝ) * (1 / 2)) * 2 = a * 2 - n := by ring
      rw [hf]
      by_cases hc : u < a * 2 - n
      · simp only [if_pos hc]
        exact ⟨n + 1, by omega, by omega, by push_cast; rfl, by congr 1; push_cast; ring⟩
      · simp only [if_neg hc]
        exact ⟨n, by omega, by omega, rfl, rfl⟩
    obtain ⟨k, k0, k4, hi, hr⟩ := hq
    have hs : qS a u = (((k : ℝ) * (1 / 2) : ℝ) : EReal) := by
      simp only [qS, segS, EReal.coe_lt_coe_iff, if_pos h2, hi, ← EReal.coe_mul]
    have hm : magS a u = BitVec.ofInt 32 k := fptosi_int k k0 (by omega) _ (by
      simp only [segS, EReal.coe_lt_coe_iff, if_pos h2, hi, add_zero])
    refine ⟨hr.trans hs.symm, by rw [hs, hm, magR_low k k0 k4], ?_, ?_⟩
    · rw [hm]; interval_cases k <;> decide
    · rw [hs, hi, e0, EReal.coe_lt_coe_iff, EReal.coe_lt_coe_iff]; constructor <;> intro h <;> linarith
  by_cases h4 : a < 4
  · -- steps of one
    have hq : ∃ k : ℤ, 2 ≤ k ∧ k ≤ 4 ∧ qiS a u = ((k : ℝ) : EReal) ∧ qR a u = ((k : ℝ) : EReal) := by
      simp only [qR, qiS, wS, segS, loR, EReal.coe_lt_coe_iff, if_neg h2, EReal.coe_lt_coe_iff, if_pos h4, e1, e0, ← EReal.coe_mul, ← EReal.coe_add,
        ← EReal.coe_sub, Ideal.liftRound_coe, EReal.coe_lt_coe_iff, mul_one]
      have hn := Int.floor_le a; have hn' := Int.lt_floor_add_one a
      generalize ⌊a⌋ = n at hn hn'
      have b0 : 1 < n := by exact_mod_cast (by push_cast; linarith : ((1 : ℤ) : ℝ) < n)
      have b4 : n < 4 := by exact_mod_cast (by push_cast; linarith : (n : ℝ) < ((4 : ℤ) : ℝ))
      by_cases hc : u < a - n
      · simp only [if_pos hc]
        exact ⟨n + 1, by omega, by omega, by push_cast; rfl, by push_cast; rfl⟩
      · simp only [if_neg hc]
        exact ⟨n, by omega, by omega, rfl, rfl⟩
    obtain ⟨k, k0, k4, hi, hr⟩ := hq
    have hs : qS a u = ((k : ℝ) : EReal) := by
      simp only [qS, segS, EReal.coe_lt_coe_iff, if_neg h2, EReal.coe_lt_coe_iff, if_pos h4, hi, mul_one]
    have hm : magS a u = BitVec.ofInt 32 (k + 2) := fptosi_int (k + 2) (by omega) (by omega) _ (by
      simp only [segS, EReal.coe_lt_coe_iff, if_neg h2, EReal.coe_lt_coe_iff, if_pos h4, hi, ← EReal.coe_add]; push_cast; rfl)
    refine ⟨hr.trans hs.symm, by rw [hs, hm, magR_mid k k0 k4], ?_, ?_⟩
    · rw [hm]; interval_cases k <;> decide
    · rw [hs, hi]
  · -- steps of two
    have hq : ∃ k : ℤ, 2 ≤ k ∧ k ≤ 3 ∧ qiS a u = ((k : ℝ) : EReal) ∧ qR a u = (((k : ℝ) * 2 : ℝ) : EReal) := by
      simp only [qR, qiS, wS, segS, loR, EReal.coe_lt_coe_iff, if_neg h2, if_neg h4, e1, e0, ← EReal.coe_mul, ← EReal.coe_add,
        ← EReal.coe_sub, Ideal.liftRound_coe, EReal.coe_lt_coe_iff]
      have hfl : ⌊(a - 4) * (1 / 2)⌋ = ⌊a * (1 / 2)⌋ - 2 := by
        rw [show (a - 4) * (1 / 2) = a * (1 / 2) - ((2 : ℤ) : ℝ) by push_cast; ring, Int.floor_sub_intCast]
      rw [hfl]
      have hn := Int.floor_le (a * (1 / 2)); have hn' := Int.lt_floor_add_one (a * (1 / 2))
      generalize ⌊a * (1 / 2)⌋ = n at hn hn'
      have b0 : 1 < n := by exact_mod_cast (by push_cast; linarith : ((1 : ℤ) : ℝ) < n)
      have b4 : n < 4 := by exact_mod_cast (by push_cast; linarith : (n : ℝ) < ((4 : ℤ) : ℝ))
      have hf : (a - (4 + 2 * ((n - 2 : ℤ) : ℝ))) * (1 / 2) = a * (1 / 2) - n := by push_cast; ring
      rw [hf]
      by_cases hc : u < a * (1 / 2) - n
      · simp only [if_pos hc]
        have b3 : n < 3 := by exact_mod_cast (by push_cast; linarith : (n : ℝ) < ((3 : ℤ) : ℝ))
        exact ⟨n + 1, by omega, by omega, by push_cast; rfl, by congr 1; push_cast; ring⟩
      · simp only [if_neg hc]
        exact ⟨n, by omega, by omega, rfl, by congr 1; push_cast; ring⟩
    obtain ⟨k, k0, k4, hi, hr⟩ := hq
    have hs : qS a u = (((k : ℝ) * 2 : ℝ) : EReal) := by
      simp only [qS, segS, EReal.coe_lt_coe_iff, if_neg h2, if_neg h4, hi, ← EReal.coe_mul]
    have hm : magS a u = BitVec.ofInt 32 (k + 4) := fptosi_int (k + 4) (by omega) (by omega) _ (by
      simp only [segS, EReal.coe_lt_coe_iff, if_neg h2, if_neg h4, hi, ← EReal.coe_add]; push_cast; rfl)
    refine ⟨hr.trans hs.symm, by rw [hs, hm, magR_high k k0 k4], ?_, ?_⟩
    · rw [hm]; interval_cases k <;> decide
    · rw [hs, hi, e0, EReal.coe_lt_coe_iff, EReal.coe_lt_coe_iff]; constructor <;> intro h <;> linarith

/-- The reference's rounded magnitude of a scaled value. -/
theorem qR_eq (v : EReal) (b : BitVec 32) : qR (aS v) (uS b) = qS (aS v) (uS b) := by
  obtain ⟨a, ha, h0, h6⟩ := aS_real v
  obtain ⟨u, hu, u0⟩ := uS_real b
  rw [ha, hu]; exact (core a u h0 h6 u0).1
/-- The reference's magnitude code. -/
theorem magR_eq (v : EReal) (b : BitVec 32) : magR (qS (aS v) (uS b)) = magS (aS v) (uS b) := by
  obtain ⟨a, ha, h0, h6⟩ := aS_real v
  obtain ⟨u, hu, u0⟩ := uS_real b
  rw [ha, hu]; exact (core a u h0 h6 u0).2.1
/-- The sign of the count of steps is the sign of the rounded magnitude. -/
theorem qi_pos (v : EReal) (b : BitVec 32) : (0 < qiS (aS v) (uS b)) = (0 < qS (aS v) (uS b)) := by
  obtain ⟨a, ha, h0, h6⟩ := aS_real v
  obtain ⟨u, hu, u0⟩ := uS_real b
  rw [ha, hu]; exact propext (core a u h0 h6 u0).2.2.2
/-- A code has four bits. -/
theorem nibS_lt (v : EReal) (b : BitVec 32) : (nibS v b).toNat < 16 := by
  have hm : (magS (aS v) (uS b)).toNat < 8 := by
    obtain ⟨a, ha, h0, h6⟩ := aS_real v
    obtain ⟨u, hu, u0⟩ := uS_real b
    rw [ha, hu]; exact (core a u h0 h6 u0).2.2.1
  unfold nibS
  generalize negS v (qS (aS v) (uS b)) = s
  generalize magS (aS v) (uS b) = w at hm
  have ho : (IntOp.ori w 8#32).toNat < 16 := by
    show (w ||| 8#32).toNat < 16
    rw [BitVec.toNat_or]
    exact Nat.or_lt_two_pow (n := 4) (by omega) (by decide)
  unfold Scalar.select
  split_ifs <;> omega

/-! ## A row -/

/-- The largest magnitude of block `j` of a row. -/
def amaxRow (x : ℕ → EReal) (j : ℕ) : EReal :=
  Finset.univ.fold max ⊥ fun d : Fin 16 => FloatOps.absf (F := Ideal) (φ := .f32) (x (16 * j + d.val))
/-- The scale of block `j`. -/
def scRow (x : ℕ → EReal) (g : EReal) (j : ℕ) : EReal :=
  min (Ideal.ofBits .f32 0x43E00000#32) (max 0 (Ideal.div (amaxRow x j) (((6 : ℝ) : EReal) * g)))
/-- The scaled value at column `k`. -/
def vRow (x : ℕ → EReal) (g : EReal) (k : ℕ) : EReal :=
  if 0 < scRow x g (k / 16) * g then Ideal.div (x k) (scRow x g (k / 16) * g) else 0
/-- The code at column `k`. -/
def nibRow (x : ℕ → EReal) (b : ℕ → BitVec 32) (g : EReal) (k : ℕ) : BitVec 32 := nibS (vRow x g k) (b k)
/-- The decoded value at column `k`, scaled. -/
def valRow (x : ℕ → EReal) (b : ℕ → BitVec 32) (g : EReal) (k : ℕ) : EReal :=
  valS (vRow x g k) (b k) * scRow x g (k / 16)
/-- The packed codes of columns `2 j` and `2 j + 1`. -/
def byteRow (x : ℕ → EReal) (b : ℕ → BitVec 32) (g : EReal) (j : ℕ) : BitVec 8 :=
  (nibRow x b g (2 * j) ||| nibRow x b g (2 * j + 1) <<< 4).setWidth 8

end Cert.Quant
end
-- ==== Proof.Tile.lean ====
module

public import proofs.«01_k».proof.Proof.Lanes
public import proofs.«01_k».proof.Proof.Quant

@[expose] public section
set_option maxRecDepth 16384

/-! The tiles of one trip at the extended reals: every element is the row's quantiser. -/

noncomputable section
namespace Cert.KernelIdeal.Hand
open Idealize.ShloMosaic Idealize.ShloMosaic.TcCoe Cert.KernelIdeal Cert.KernelIdeal.Gen Cert.Quant

/-- The tiles hold rows `x` of the input and `b` of the random words. -/
structure Tiles.Holds (T : Tiles Ideal) (x : ℕ → ℕ → EReal) (b : ℕ → ℕ → BitVec 32) : Prop where
  /-- The 16-row tiles. -/
  X : ∀ (grp : Fin 2) (c : Fin 8) (r : Fin 16) (l : Fin 128), T.X grp c (ix2 r l) = x (16 * grp.val + r.val) (128 * c.val + l.val)
  /-- The 8-row tiles. -/
  X8 : ∀ (grp h : Fin 2) (c : Fin 8) (r : Fin 8) (l : Fin 128), T.X8 grp h c (ix2 r l) = x (16 * grp.val + (8 * h.val + r.val)) (128 * c.val + l.val)
  /-- The random words. -/
  B : ∀ (grp h : Fin 2) (c : Fin 8) (r : Fin 8) (l : Fin 128), T.B grp h c (ix2 r l) = b (16 * grp.val + (8 * h.val + r.val)) (128 * c.val + l.val)

variable {T : Tiles Ideal} {x : ℕ → ℕ → EReal} {b : ℕ → ℕ → BitVec 32} (H : T.Holds x b)
  {v15 : Vec Ideal S8x128 .f32} {g : EReal} (hg : ∀ r l, v15 (ix2 r l) = g)

include H in
/-- The block maximum in lane `16 q + t`. -/
theorem amaxTile_row (r : Fin 16) (q : Fin 8) (t : Fin 16) :
    amaxTile T.X (ix2 r (ln q t)) = amaxRow (x (16 * (t.val % 2) + r.val)) (8 * (t.val / 2) + q.val) := by
  rw [amaxTile_at]
  unfold amaxRow
  refine congrArg (fun f => Finset.univ.fold max ⊥ f) (funext fun d => ?_)
  pointwise [magTile]
  rw [H.X]
  have e : 128 * (colOf t).val + (ln q d).val = 16 * (8 * (t.val / 2) + q.val) + d.val := by
    simp only [colOf, ln]; omega
  rw [e]; rfl

include hg in
/-- The global scale on 16 rows. -/
theorem g16_at (r : Fin 16) (l : Fin 128) : g16 v15 (ix2 r l) = g := by
  pointwise [g16]
  split_ifs <;> exact hg _ _

include H hg in
/-- The block scale in lane `16 q + t`. -/
theorem scf_row (r : Fin 16) (q : Fin 8) (t : Fin 16) :
    scf v15 T.X (ix2 r (ln q t)) = scRow (x (16 * (t.val % 2) + r.val)) g (8 * (t.val / 2) + q.val) := by
  pointwise [scf, sc8]
  rw [amaxTile_row H, g16_at hg, c6]
  rfl

include H hg in
/-- The reciprocal of the effective scale in lane `16 q + t`. -/
theorem rinv_row (r : Fin 16) (q : Fin 8) (t : Fin 16) :
    rinv v15 T.X (ix2 r (ln q t))
      = if 0 < scRow (x (16 * (t.val % 2) + r.val)) g (8 * (t.val / 2) + q.val) * g
        then Ideal.div 1 (scRow (x (16 * (t.val % 2) + r.val)) g (8 * (t.val / 2) + q.val) * g) else 0 := by
  pointwise [rinv, eff]
  rw [scf_row H hg, g16_at hg]
  split_ifs <;> rfl

/-- The lane an element's scale is gathered from. -/
theorem pidx_at (c : Fin 8) (grp : Fin 2) (r : Fin 8) (l : Fin 128) :
    pidx (c2B c) (grpB grp) (ix2 r l) = BitVec.ofNat 32 (ln ⟨l.val / 16, by omega⟩ ⟨2 * c.val + grp.val, by omega⟩).val := by
  have key : ∀ (c : Fin 8) (grp : Fin 2) (l : Fin 128),
      IntOp.ori (IntOp.ori (IntOp.andi (BitVec.ofNat 32 l.val) 4294967280#32) (c2B c)) (grpB grp)
        = BitVec.ofNat 32 (ln ⟨l.val / 16, by omega⟩ ⟨2 * c.val + grp.val, by omega⟩).val := by decide +kernel
  pointwise [pidx, lane8]
  exact key c grp l

/-- A half's element. -/
theorem half_at (y : FVec Ideal S16x128 .f32) (h : Fin 2) (r : Fin 8) (l : Fin 128) :
    half h y (ix2 r l) = y (ix2 ⟨8 * h.val + r.val, by omega⟩ l) := by
  match h with
  | 0 =>
    pointwise [half]
  | 1 =>
    pointwise [half]

/-- Dividing is multiplying by the reciprocal, and by zero where there is none. -/
theorem scaled_eq (y e : EReal) : y * (if 0 < e then Ideal.div 1 e else 0) = if 0 < e then Ideal.div y e else 0 := by
  split_ifs with h
  · simp only [Ideal.div, if_neg h.ne', one_mul]
  · exact mul_zero y

include H hg in
/-- The scaled values. -/
theorem tv_row (grp h : Fin 2) (c : Fin 8) (r : Fin 8) (l : Fin 128) :
    tv v15 T grp h c (ix2 r l) = vRow (x (16 * grp.val + (8 * h.val + r.val))) g (128 * c.val + l.val) := by
  pointwise [tv, qv]
  rw [gat8_at _ _ r l _ (pidx_at c grp r l), half_at, rinv_row H hg, H.X8, scaled_eq]
  have e1 : (2 * c.val + grp.val) % 2 = grp.val := by omega
  have e2 : 8 * ((2 * c.val + grp.val) / 2) + l.val / 16 = (128 * c.val + l.val) / 16 := by omega
  simp only [e1, e2]
  rfl

include H hg in
/-- The scales gathered beside the values. -/
theorem ts_row (grp h : Fin 2) (c : Fin 8) (r : Fin 8) (l : Fin 128) :
    gat8 (half h (scf v15 T.X)) (pidx (c2B c) (grpB grp)) (ix2 r l)
      = scRow (x (16 * grp.val + (8 * h.val + r.val))) g ((128 * c.val + l.val) / 16) := by
  rw [gat8_at _ _ r l _ (pidx_at c grp r l), half_at, scf_row H hg]
  have e1 : (2 * c.val + grp.val) % 2 = grp.val := by omega
  have e2 : 8 * ((2 * c.val + grp.val) / 2) + l.val / 16 = (128 * c.val + l.val) / 16 := by omega
  simp only [e1, e2]

/-- The code of an element. -/
theorem qnib_at (v : FVec Ideal S8x128 .f32) (w : Vec Ideal S8x128 .i32) (r : Fin 8) (l : Fin 128) :
    qnib v w (ix2 r l) = nibS (v (ix2 r l)) (w (ix2 r l)) := by
  unfold nibS negS
  simp only [← qi_pos]
  pointwise [qnib, qmag, qneg, qi, qa, qw, qu, seg, k8]
  simp only [c2, c4, c6, chalf, cu]
  rfl
/-- The value of an element. -/
theorem qval_at (v : FVec Ideal S8x128 .f32) (w : Vec Ideal S8x128 .i32) (s : FVec Ideal S8x128 .f32) (r : Fin 8) (l : Fin 128) :
    qval v w s (ix2 r l) = valS (v (ix2 r l)) (w (ix2 r l)) * s (ix2 r l) := by
  unfold valS negS
  simp only [← qi_pos]
  pointwise [qval, qneg, qi, qa, qw, qu, seg, k8]
  simp only [c2, c4, c6, chalf, cu]
  rfl

include H hg in
/-- The codes of a half tile. -/
theorem tnib_row (grp h : Fin 2) (c : Fin 8) (r : Fin 8) (l : Fin 128) :
    tnib v15 T grp h c (ix2 r l)
      = nibRow (x (16 * grp.val + (8 * h.val + r.val))) (b (16 * grp.val + (8 * h.val + r.val))) g (128 * c.val + l.val) := by
  unfold tnib
  rw [qnib_at, tv_row H hg, H.B]; rfl

include H hg in
/-- The values of a half tile. -/
theorem tval_row (grp h : Fin 2) (c : Fin 8) (r : Fin 8) (l : Fin 128) :
    tval v15 T grp h c (ix2 r l)
      = valRow (x (16 * grp.val + (8 * h.val + r.val))) (b (16 * grp.val + (8 * h.val + r.val))) g (128 * c.val + l.val) := by
  unfold tval
  rw [qval_at, tv_row H hg, ts_row H hg, H.B]; rfl

include H hg in
/-- The decoded tile. -/
theorem dyvTile_row (grp : Fin 2) (c : Fin 8) (r : Fin 16) (l : Fin 128) :
    dyvTile v15 T grp c (ix2 r l)
      = valRow (x (16 * grp.val + r.val)) (b (16 * grp.val + r.val)) g (128 * c.val + l.val) := by
  pointwise [dyvTile]
  by_cases h : r.val < 8
  · rw [dif_pos h, tval_row H hg]; simp
  · rw [dif_neg h, tval_row H hg]
    have e : 8 * (1 : Fin 2).val + (r.val - 8) = r.val := by show 8 * 1 + _ = _; omega
    simp only [e]

/-- The lane a scale is gathered from, as words. -/
theorem sidx_word : ∀ (grp : Fin 2) (j : Fin 64),
    IntOp.ori (IntOp.ori (IntOp.shli .vector (IntOp.andi (BitVec.ofNat 32 j.val) 7#32) 4#32)
      (IntOp.shli .vector (IntOp.shrsi .vector (BitVec.ofNat 32 j.val) 3#32) 1#32)) (grpB grp)
      = BitVec.ofNat 32 (ln ⟨j.val % 8, by omega⟩ ⟨2 * (j.val / 8) + grp.val, by omega⟩).val := by decide +kernel
/-- The lane a scale is gathered from. -/
theorem sidx_at (grp : Fin 2) (r : Fin 8) (j : Fin 64) (l : Fin 128) (hl : l.val = j.val) :
    sidx (grpB grp) (ix2 r l) = BitVec.ofNat 32 (ln ⟨j.val % 8, by omega⟩ ⟨2 * (j.val / 8) + grp.val, by omega⟩).val := by
  pointwise [sidx, lane8]
  rw [hl]
  exact sidx_word grp j

include H hg in
/-- A gathered scale. -/
theorem sgat_row (grp h : Fin 2) (r : Fin 8) (j : Fin 64) (l : Fin 128) (hl : l.val = j.val) :
    gat8 (half h (scf v15 T.X)) (sidx (grpB grp)) (ix2 r l) = scRow (x (16 * grp.val + (8 * h.val + r.val))) g j.val := by
  rw [gat8_at _ _ r l _ (sidx_at grp r j l hl), half_at, scf_row H hg]
  have e1 : (2 * (j.val / 8) + grp.val) % 2 = grp.val := by omega
  have e2 : 8 * ((2 * (j.val / 8) + grp.val) / 2) + j.val % 8 = j.val := by omega
  simp only [e1, e2]

include H hg in
/-- The scales tile. -/
theorem scalesTile_row (r : Fin 32) (j : Fin 64) :
    scalesTile v15 T.X (ix2 r j) = scRow (x r.val) g j.val := by
  pointwise [scalesTile, srow]
  by_cases h16 : r.val < 16
  · rw [dif_pos h16]
    by_cases h8 : r.val < 8
    · rw [dif_pos h8]
      exact (sgat_row H hg 0 0 ⟨r.val, h8⟩ j _ rfl).trans (by
        rw [show 16 * (0 : Fin 2).val + (8 * (0 : Fin 2).val + r.val) = r.val by show 16 * 0 + (8 * 0 + _) = _; omega])
    · rw [dif_neg h8]
      exact (sgat_row H hg 0 1 ⟨r.val - 8, by omega⟩ j _ rfl).trans (by
        rw [show 16 * (0 : Fin 2).val + (8 * (1 : Fin 2).val + (r.val - 8)) = r.val by show 16 * 0 + (8 * 1 + _) = _; omega])
  · rw [dif_neg h16]
    by_cases h8 : r.val - 16 < 8
    · rw [dif_pos h8]
      exact (sgat_row H hg 1 0 ⟨r.val - 16, h8⟩ j _ rfl).trans (by
        rw [show 16 * (1 : Fin 2).val + (8 * (0 : Fin 2).val + (r.val - 16)) = r.val by show 16 * 1 + (8 * 0 + _) = _; omega])
    · rw [dif_neg h8]
      exact (sgat_row H hg 1 1 ⟨r.val - 16 - 8, by omega⟩ j _ rfl).trans (by
        rw [show 16 * (1 : Fin 2).val + (8 * (1 : Fin 2).val + (r.val - 16 - 8)) = r.val by show 16 * 1 + (8 * 1 + _) = _; omega])

end Cert.KernelIdeal.Hand
end
-- ==== Proof.Codes.lean ====
module

public import proofs.«01_k».proof.Proof.Tile
public import Idealize.ShloMosaic.Lib.BitcastFour

@[expose] public section
set_option maxRecDepth 16384

/-! The packed codes of one trip at the extended reals: every byte is two neighbouring codes of a row. -/

noncomputable section
namespace Cert.KernelIdeal.Hand
open Idealize.ShloMosaic Idealize.ShloMosaic.TcCoe Cert.KernelIdeal Cert.KernelIdeal.Gen Cert.Quant

variable {T : Tiles Ideal} {x : ℕ → ℕ → EReal} {b : ℕ → ℕ → BitVec 32} (H : T.Holds x b)
  {v15 : Vec Ideal S8x128 .f32} {g : EReal} (hg : ∀ r l, v15 (ix2 r l) = g)

include H hg in
/-- The codes of a column group, 32 rows. -/
theorem nib32_row (c : Fin 8) (p : Fin 32) (l : Fin 128) :
    concatenate S32x128 0 [⟨S8x128, tnib v15 T 0 0 c⟩, ⟨S8x128, tnib v15 T 0 1 c⟩,
      ⟨S8x128, tnib v15 T 1 0 c⟩, ⟨S8x128, tnib v15 T 1 1 c⟩] concatenates_S8x128_S8x128_S8x128_S8x128_S32x128_d0 (ix2 p l)
      = nibRow (x p.val) (b p.val) g (128 * c.val + l.val) := by
  pointwise []
  by_cases h0 : p.val < 8
  · rw [dif_pos h0]
    exact (tnib_row H hg 0 0 c ⟨p.val, h0⟩ l).trans (by
      rw [show 16 * (0 : Fin 2).val + (8 * (0 : Fin 2).val + p.val) = p.val by show 16 * 0 + (8 * 0 + _) = _; omega])
  rw [dif_neg h0]
  by_cases h1 : p.val - 8 < 8
  · rw [dif_pos h1]
    exact (tnib_row H hg 0 1 c ⟨p.val - 8, h1⟩ l).trans (by
      rw [show 16 * (0 : Fin 2).val + (8 * (1 : Fin 2).val + (p.val - 8)) = p.val by show 16 * 0 + (8 * 1 + _) = _; omega])
  rw [dif_neg h1]
  by_cases h2 : p.val - 8 - 8 < 8
  · rw [dif_pos h2]
    exact (tnib_row H hg 1 0 c ⟨p.val - 8 - 8, h2⟩ l).trans (by
      rw [show 16 * (1 : Fin 2).val + (8 * (0 : Fin 2).val + (p.val - 8 - 8)) = p.val by show 16 * 1 + (8 * 0 + _) = _; omega])
  rw [dif_neg h2]
  exact (tnib_row H hg 1 1 c ⟨p.val - 8 - 8 - 8, by omega⟩ l).trans (by
    rw [show 16 * (1 : Fin 2).val + (8 * (1 : Fin 2).val + (p.val - 8 - 8 - 8)) = p.val by show 16 * 1 + (8 * 1 + _) = _; omega])

include H hg in
/-- The bits of a word of codes. -/
theorem bytesTile_bit (c : Fin 8) (a : Fin 8) (l : Fin 128) (i q : ℕ) (hi : i < 4) (hq : q < 8) :
    (bytesTile v15 T c (ix2 a l)).getLsbD (8 * i + q)
      = (nibRow (x (4 * a.val + i)) (b (4 * a.val + i)) g (128 * c.val + l.val)).getLsbD q := by
  unfold bytesTile
  refine (bitcast_8_32_getLsbD_ix2 (R := 32) (r := 8) (n := 128) _ _ a l (8 * i + q) (by omega) ⟨4 * a.val + i, by omega⟩
    (by show 4 * a.val + i = 4 * a.val + (8 * i + q) / 8; omega)).trans ?_
  show (BitVec.setWidth 8 (concatenate S32x128 0 _ _ (ix2 ⟨4 * a.val + i, _⟩ l))).getLsbD ((8 * i + q) % 8) = _
  rw [nib32_row H hg, BitVec.getLsbD_setWidth, show (8 * i + q) % 8 = q by omega]
  simp [hq]

/-- A code's bits past the fourth are zero. -/
theorem nib_bit (x : ℕ → EReal) (b : ℕ → BitVec 32) (g : EReal) (k q : ℕ) (hq : 4 ≤ q) : (nibRow x b g k).getLsbD q = false := by
  have h := nibS_lt (vRow x g k) (b k)
  rw [BitVec.getLsbD, Nat.testBit_lt_two_pow]
  exact lt_of_lt_of_le h (le_trans (by norm_num) (Nat.pow_le_pow_right (by norm_num) hq : 2 ^ 4 ≤ 2 ^ q))

include H hg in
/-- The bits of a packed word at an even lane. -/
theorem pairUp_bit (c : Fin 8) (a : Fin 8) (l : Fin 64) (m : Fin 128) (hm : m.val = 2 * l.val) (i q : ℕ) (hi : i < 4) (hq : q < 8) :
    (pairUp (bytesTile v15 T c) (ix2 a m)).getLsbD (8 * i + q)
      = (byteRow (x (4 * a.val + i)) (b (4 * a.val + i)) g (64 * c.val + l.val)).getLsbD q := by
  have key : ∀ l : Fin 64, IntOp.andi (IntOp.addi (BitVec.ofNat 32 (2 * l.val)) 1#32) 127#32 = BitVec.ofNat 32 (2 * l.val + 1) := by
    decide +kernel
  have hgat : gat8 (bytesTile v15 T c) (andi (addi lane8 (broadcast S8x128 1#32)) (broadcast S8x128 127#32)) (ix2 a m)
      = bytesTile v15 T c (ix2 a ⟨2 * l.val + 1, by omega⟩) :=
    gat8_at _ _ a m _ (by pointwise [lane8]; rw [hm]; exact key l)
  have hp : pairUp (bytesTile v15 T c) (ix2 a m)
      = bytesTile v15 T c (ix2 a m) ||| bytesTile v15 T c (ix2 a ⟨2 * l.val + 1, by omega⟩) <<< 4 := by
    show IntOp.ori _ (IntOp.shli .vector (gat8 _ _ _) 4#32) = _
    rw [hgat]; rfl
  have e0 : 128 * c.val + m.val = 2 * (64 * c.val + l.val) := by omega
  have e1 : 128 * c.val + (2 * l.val + 1) = 2 * (64 * c.val + l.val) + 1 := by omega
  rw [hp, BitVec.getLsbD_or, bytesTile_bit H hg c a m i q hi hq, BitVec.getLsbD_shiftLeft, byteRow, BitVec.getLsbD_setWidth,
    BitVec.getLsbD_or, BitVec.getLsbD_shiftLeft, e0]
  by_cases h4 : q < 4
  · by_cases hi0 : i = 0
    · subst hi0; simp [hq, h4]
    · have hb := bytesTile_bit H hg c a ⟨2 * l.val + 1, by omega⟩ (i - 1) (q + 4) (by omega) (by omega)
      rw [show 8 * (i - 1) + (q + 4) = 8 * i + q - 4 by omega, nib_bit _ _ _ _ _ (by omega)] at hb
      simp [hq, h4, hb]
  · have hb := bytesTile_bit H hg c a ⟨2 * l.val + 1, by omega⟩ i (q - 4) (by omega) (by omega)
    rw [show 8 * i + (q - 4) = 8 * i + q - 4 by omega] at hb
    simp only [e1] at hb
    have h32 : 8 * i + q < 32 := by omega
    have h4' : ¬ 8 * i + q < 4 := by omega
    have hq32 : q < 32 := by omega
    simp [hq, h4, hb, h32, h4', hq32]

include H hg in
/-- The codes tile. -/
theorem codesTile_row (c c' : Fin 8) (p : Fin 32) (l : Fin 128) :
    codesTile v15 T c c' (ix2 p l)
      = byteRow (x p.val) (b p.val) g (if l.val < 64 then 64 * c.val + l.val else 64 * c'.val + (l.val - 64)) := by
  have key : ∀ l : Fin 128, IntOp.andi (IntOp.shli .vector (BitVec.ofNat 32 l.val) 1#32) 127#32 = BitVec.ofNat 32 (2 * (l.val % 64))
      ∧ IntOp.cmpi .slt (BitVec.ofNat 32 l.val) 64#32 = BitVec.ofBool (decide (l.val < 64)) := by
    decide +kernel
  have hgat : ∀ w : IVec S8x128 32, ∀ a : Fin 8, gat8 w (andi (shli lane8 (broadcast S8x128 1#32)) (broadcast S8x128 127#32)) (ix2 a l)
      = w (ix2 a ⟨2 * (l.val % 64), by omega⟩) := fun w a =>
    gat8_at _ _ a l _ (by pointwise [lane8]; exact (key l).1)
  have hsel : ∀ a : Fin 8, select (cmpi .slt lane8 (broadcast S8x128 64#32))
      (gat8 (pairUp (bytesTile v15 T c)) (andi (shli lane8 (broadcast S8x128 1#32)) (broadcast S8x128 127#32)))
      (gat8 (pairUp (bytesTile v15 T c')) (andi (shli lane8 (broadcast S8x128 1#32)) (broadcast S8x128 127#32))) (ix2 a l)
      = if l.val < 64 then pairUp (bytesTile v15 T c) (ix2 a ⟨2 * (l.val % 64), by omega⟩)
        else pairUp (bytesTile v15 T c') (ix2 a ⟨2 * (l.val % 64), by omega⟩) := fun a => by
    show Scalar.select (IntOp.cmpi .slt (lane8 (ix2 a l)) 64#32) (gat8 _ _ _) (gat8 _ _ _) = _
    rw [hgat, hgat, show lane8 (ix2 a l) = BitVec.ofNat 32 l.val by pointwise [lane8], (key l).2]
    by_cases h : l.val < 64 <;> simp [Scalar.select, h]
  refine BitVec.eq_of_getLsbD_eq fun q hq => ?_
  unfold codesTile packPair
  rw [bitcast_getLsbD _ _ _ q hq (by decide)]
  have hrow : S32x128.row (ix2 p l) = p.val := rfl
  have hidx : ∀ hp, bitcasts_S8x128_w32_S32x128_w8.srcIdx (ix2 p l) ((S32x128.row (ix2 p l) * 8 + q) / 32) hp
      = (ix2 ⟨p.val / 4, by omega⟩ l : S8x128.Idx) := fun hp => by
    funext d
    match d with
    | ⟨0, _⟩ =>
      exact Fin.ext ((bitcasts_S8x128_w32_S32x128_w8.srcIdx_row _ _ _ ⟨0, Nat.zero_lt_two⟩ rfl).trans
        (by rw [hrow]; show _ = p.val / 4; omega))
    | ⟨1, _⟩ => exact Fin.ext (bitcasts_S8x128_w32_S32x128_w8.srcIdx_other _ _ _ ⟨1, Nat.one_lt_two⟩ (by show ¬ 1 + 2 = 2; omega))
  rw [hidx, hsel, hrow, show (p.val * 8 + q) % 32 = 8 * (p.val % 4) + q by omega]
  have hr : 4 * (p.val / 4) + p.val % 4 = p.val := by omega
  by_cases h : l.val < 64
  · rw [if_pos h, if_pos h, pairUp_bit H hg c ⟨p.val / 4, by omega⟩ ⟨l.val, h⟩ _ (by show 2 * (l.val % 64) = 2 * l.val; omega) _ _ (by omega) hq]
    simp only [hr]
  · rw [if_neg h, if_neg h, pairUp_bit H hg c' ⟨p.val / 4, by omega⟩ ⟨l.val - 64, by omega⟩ _
      (by show 2 * (l.val % 64) = 2 * (l.val - 64); omega) _ _ (by omega) hq]
    simp only [hr]

end Cert.KernelIdeal.Hand
end
-- ==== Proof.Rows.lean ====
module

public import proofs.«01_k».proof.Proof.Codes
public import proofs.«01_k».proof.Proof.Setup

@[expose] public section
set_option maxRecDepth 16384

/-! The blocks of one row of the grid at the extended reals: every element is the row's quantiser, and the
result block is the product with the weights, scaled, plus the residual. -/

noncomputable section
namespace Cert.KernelIdeal.Hand
open Idealize.ShloMosaic Idealize.ShloMosaic.TcCoe Cert.KernelIdeal Cert.KernelIdeal.Gen Cert.Quant

variable (x0 : Vec Ideal S8x128 .f32) (x2 : Vec Ideal S256x1024 .bf16) (x3 : Vec Ideal S256x1024 .i32)

/-- Row `r` of a block of the input. -/
def rowOf (r : ℕ) : ℕ → EReal := fun k => x2 (mk2 r k)
/-- Row `r` of a block of the random words. -/
def wordsOf (r : ℕ) : ℕ → BitVec 32 := fun k => x3 (mk2 r k)

/-- The tiles of a trip hold its rows. -/
theorem blkTiles_holds (k : ℕ) : (blkTiles x2 x3 k).Holds (fun R => rowOf x2 (32 * k + R)) (fun R => wordsOf x3 (32 * k + R)) where
  X grp c r l := by
    show x2 (mk2 (32 * k + 16 * grp.val + r.val) (128 * c.val + l.val)) = x2 (mk2 _ _)
    rw [Nat.add_assoc]
  X8 grp h c r l := by
    show x2 (mk2 (32 * k + 16 * grp.val + 8 * h.val + r.val) (128 * c.val + l.val)) = x2 (mk2 _ _)
    rw [Nat.add_assoc, Nat.add_assoc]
  B grp h c r l := by
    show x3 (mk2 (32 * k + 16 * grp.val + 8 * h.val + r.val) (128 * c.val + l.val)) = x3 (mk2 _ _)
    rw [Nat.add_assoc, Nat.add_assoc]

variable {g : EReal} (hg : ∀ r l, x0 (ix2 r l) = g)

include hg in
/-- The decoded block, element by element. -/
theorem dyvB_row (R : Fin 256) (K : Fin 1024) :
    dyvB x0 x2 x3 (ix2 R K) = valRow (rowOf x2 R.val) (wordsOf x3 R.val) g K.val := by
  have h := dyvTile_row (blkTiles_holds x2 x3 (R.val / 32)) hg (Fin.ofNat 2 (R.val / 16)) (Fin.ofNat 8 (K.val / 128))
    (Fin.ofNat 16 R.val) (Fin.ofNat 128 K.val)
  refine Eq.trans ?_ (h.trans ?_)
  · rfl
  · have e0 : 32 * (R.val / 32) + (16 * (R.val / 16 % 2) + R.val % 16) = R.val := by omega
    have e1 : 128 * (K.val / 128 % 8) + K.val % 128 = K.val := by omega
    show valRow (rowOf x2 (32 * (R.val / 32) + (16 * (R.val / 16 % 2) + R.val % 16)))
      (wordsOf x3 (32 * (R.val / 32) + (16 * (R.val / 16 % 2) + R.val % 16))) g (128 * (K.val / 128 % 8) + K.val % 128) = _
    rw [e0, e1]

include hg in
/-- The scales block, element by element. -/
theorem scalesB_row (R : Fin 256) (J : Fin 64) :
    scalesB x0 x2 x3 (ix2 R J) = scRow (rowOf x2 R.val) g J.val := by
  have h := scalesTile_row (blkTiles_holds x2 x3 (R.val / 32)) hg (Fin.ofNat 32 R.val) (Fin.ofNat 64 J.val)
  refine Eq.trans ?_ (h.trans ?_)
  · rfl
  · have e0 : 32 * (R.val / 32) + R.val % 32 = R.val := by omega
    have e1 : J.val % 64 = J.val := by omega
    show scRow (rowOf x2 (32 * (R.val / 32) + R.val % 32)) g (J.val % 64) = _
    rw [e0, e1]

include hg in
/-- The codes block, element by element. -/
theorem codesB_row (R : Fin 256) (J : Fin 512) :
    codesB x0 x2 x3 (ix2 R J) = byteRow (rowOf x2 R.val) (wordsOf x3 R.val) g J.val := by
  have h := codesTile_row (blkTiles_holds x2 x3 (R.val / 32)) hg (Fin.ofNat 8 (2 * (J.val / 128))) (Fin.ofNat 8 (2 * (J.val / 128) + 1))
    (Fin.ofNat 32 R.val) (Fin.ofNat 128 J.val)
  refine Eq.trans ?_ (h.trans ?_)
  · rfl
  · have e0 : 32 * (R.val / 32) + R.val % 32 = R.val := by omega
    have e1 : (if J.val % 128 < 64 then 64 * (2 * (J.val / 128) % 8) + J.val % 128
        else 64 * ((2 * (J.val / 128) + 1) % 8) + (J.val % 128 - 64)) = J.val := by split_ifs <;> omega
    show byteRow (rowOf x2 (32 * (R.val / 32) + R.val % 32)) (wordsOf x3 (32 * (R.val / 32) + R.val % 32)) g
      (if J.val % 128 < 64 then 64 * (2 * (J.val / 128) % 8) + J.val % 128
        else 64 * ((2 * (J.val / 128) + 1) % 8) + (J.val % 128 - 64)) = _
    rw [e0, e1]

/-- The product, element by element. -/
theorem pay3_at (a : Vec Ideal S256x1024 .bf16) (w : Vec Ideal S1024x4096 .bf16) (R : Fin 256) (J : Fin 4096) :
    k0_pay3 a w (ix2 R J) = (∑ k : Fin 1024, a (ix2 R k) * w (ix2 k J) : EReal) := by
  pointwise [k0_pay3]

/-- The result block, element by element. -/
theorem outB_at (i : grid0.Coords) (dyv : Vec Ideal S256x1024 .bf16) (x1 : Vec Ideal S8x128 .f32) (x4 : Vec Ideal S256x4096 .bf16)
    (x5 : Vec Ideal S1024x16384 .bf16) (R : Fin 256) (J : Fin 4096) :
    outB i dyv x1 x4 x5 (ix2 R J)
      = ((∑ k : Fin 1024, dyv (ix2 R k) * x5 (mk2 k.val (4096 * (i 1).val + J.val))) * x1 (mk2 0 0) + x4 (ix2 R J) : EReal) := by
  show dxTile (sAt x1) (fun _ => k0_pay3 dyv (wCols i x5) (ix2 R J)) (fun _ => x4 (ix2 R J)) (mk2 R.val J.val) = _
  rw [pay3_at]
  unfold mk2
  pointwise [dxTile, sAt, wCols]
  simp [mk2]

end Cert.KernelIdeal.Hand
end
-- ==== Proof.Spec.lean ====
module

public import proofs.«01_k».proof.Proof.Quant

@[expose] public section
set_option maxRecDepth 16384

/-! The three results, element by element, as functions of the argument arrays: what both programs are shown
to leave. -/

noncomputable section
namespace Cert.Spec
open Idealize.ShloMosaic Cert.Quant

/-- Row `r` of the incoming gradient. -/
def row (X : FVec Ideal ⟨2, ![12288, 1024]⟩ .bf16) (r : ℕ) : ℕ → EReal := fun k => X (ix2 (Fin.ofNat 12288 r) (Fin.ofNat 1024 k))
/-- Row `r` of the random words. -/
def words (B : IVec ⟨2, ![12288, 1024]⟩ 32) (r : ℕ) : ℕ → BitVec 32 := fun k => B (ix2 (Fin.ofNat 12288 r) (Fin.ofNat 1024 k))
/-- The result: the quantised gradient times the weights, scaled, plus the residual. -/
def dx (X : FVec Ideal ⟨2, ![12288, 1024]⟩ .bf16) (Y : FVec Ideal ⟨2, ![12288, 16384]⟩ .bf16) (B : IVec ⟨2, ![12288, 1024]⟩ 32)
    (W : FVec Ideal ⟨2, ![1024, 16384]⟩ .bf16) (g s : EReal) : FVec Ideal ⟨2, ![12288, 16384]⟩ .bf16 := fun j =>
  ((∑ k : Fin 1024, valRow (row X (j 0).val) (words B (j 0).val) g k.val * W (ix2 k (j 1))) * s + Y j : EReal)
/-- The packed codes. -/
def codes (X : FVec Ideal ⟨2, ![12288, 1024]⟩ .bf16) (B : IVec ⟨2, ![12288, 1024]⟩ 32) (g : EReal) : IVec ⟨2, ![12288, 512]⟩ 8 := fun j =>
  byteRow (row X (j 0).val) (words B (j 0).val) g (j 1).val
/-- The block scales. -/
def scales (X : FVec Ideal ⟨2, ![12288, 1024]⟩ .bf16) (g : EReal) : FVec Ideal ⟨2, ![12288, 64]⟩ .fp8e4m3 := fun j =>
  scRow (row X (j 0).val) g (j 1).val

end Cert.Spec
end
-- ==== Proof.Value.lean ====
module

public import proofs.«01_k».proof.Proof.Rows
public import proofs.«01_k».proof.Proof.Region
public import proofs.«01_k».proof.Proof.Spec
public import Idealize.ShloMosaic.Lib.Pipeline.ValueKit
public import Idealize.ShloMosaic.Lib.Claim

@[expose] public section
set_option maxRecDepth 16384

/-! The kernel's three result arrays after its run, as functions of the argument arrays. -/

noncomputable section
namespace Cert.KernelIdeal.Hand
open Idealize.ShloMosaic Idealize.ShloMosaic.TcCoe Idealize.ShloMosaic.Tactic Cert.KernelIdeal Cert.KernelIdeal.Gen Cert.Quant
open Idealize.SL Idealize.SL.Sem
open Idealize.ShloMosaic.Pipeline (Dat)

variable (m : (ℓ : Loc nD τ sig) → Buf (Elt Ideal) ℓ)

/-- The gradient. -/
abbrev aX (c : Dev nD) : FVec Ideal S12288x1024 .bf16 := m ((c : Thread nD τ).loc main_arg0)
/-- The residual. -/
abbrev aY (c : Dev nD) : FVec Ideal S12288x16384 .bf16 := m ((c : Thread nD τ).loc main_arg1)
/-- The random words. -/
abbrev aB (c : Dev nD) : IVec S12288x1024 32 := m ((c : Thread nD τ).loc main_arg2)
/-- The weights. -/
abbrev aW (c : Dev nD) : FVec Ideal S1024x16384 .bf16 := m ((c : Thread nD τ).loc main_arg3)
/-- The global scale. -/
abbrev aG (c : Dev nD) : EReal := (m ((c : Thread nD τ).loc main_arg4) : FVec Ideal S_ .f32) ix0
/-- The product's scale. -/
abbrev aS' (c : Dev nD) : EReal := (m ((c : Thread nD τ).loc main_arg5) : FVec Ideal S_ .f32) ix0

/-- Every window's block index at a point. -/
theorem idx : ∀ t : Fin cfg0.N, win0_0.index t = ![0, 0] ∧ win0_1.index t = ![0, 0] ∧ win0_2.index t = ![t.val / 4, 0]
    ∧ win0_3.index t = ![t.val / 4, 0] ∧ win0_4.index t = ![t.val / 4, t.val % 4] ∧ win0_5.index t = ![0, 0]
    ∧ win0_6.index t = ![t.val / 4, t.val % 4] ∧ win0_7.index t = ![t.val / 4, 0] ∧ win0_8.index t = ![t.val / 4, 0]
    ∧ (grid0.coords t 1).val = t.val % 4 :=
  (by decide +kernel : ∀ t : Fin grid0.N, _)

/-- The global scale's block holds the scale everywhere. -/
theorem iblk0_at (c : Dev nD) (t : Fin cfg0.N) (r : Fin 8) (l : Fin 128) :
    (iblk m c 0 t : Vec Ideal S8x128 .f32) (ix2 r l) = aG m c := by
  blk_simp [iblk]
  entry_read
  pointwise

/-- The product scale's block holds the scale everywhere. -/
theorem iblk1_at (c : Dev nD) (t : Fin cfg0.N) (r : Fin 8) (l : Fin 128) :
    (iblk m c 1 t : Vec Ideal S8x128 .f32) (ix2 r l) = aS' m c := by
  blk_simp [iblk]
  entry_read
  pointwise

/-- An element of the gradient's block. -/
theorem iblk2_at (c : Dev nD) (t : Fin cfg0.N) (ht : t.val < 192) (R : Fin 256) (k : Fin 1024) :
    (iblk m c 2 t : Vec Ideal S256x1024 .bf16) (ix2 R k) = aX m c (ix2 ⟨256 * (t.val / 4) + R.val, by omega⟩ k) := by
  blk_ext [iblk, V, idx t]

/-- An element of the random words' block. -/
theorem iblk3_at (c : Dev nD) (t : Fin cfg0.N) (ht : t.val < 192) (R : Fin 256) (k : Fin 1024) :
    (iblk m c 3 t : Vec Ideal S256x1024 .i32) (ix2 R k) = aB m c (ix2 ⟨256 * (t.val / 4) + R.val, by omega⟩ k) := by
  blk_ext [iblk, V, idx t]

/-- An element of the residual's block. -/
theorem iblk4_at (c : Dev nD) (t : Fin cfg0.N) (ht : t.val < 192) (R : Fin 256) (k : Fin 4096) :
    (iblk m c 4 t : Vec Ideal S256x4096 .bf16) (ix2 R k)
      = aY m c (ix2 ⟨256 * (t.val / 4) + R.val, by omega⟩ ⟨4096 * (t.val % 4) + k.val, by omega⟩) := by
  blk_ext [iblk, V, idx t]

/-- An element of the weights' block. -/
theorem iblk5_at (c : Dev nD) (t : Fin cfg0.N) (R : Fin 1024) (k : Fin 16384) :
    (iblk m c 5 t : Vec Ideal S1024x16384 .bf16) (ix2 R k) = aW m c (ix2 R k) := by
  blk_ext [iblk, V, idx t]

/-- A row of the gradient's block is a row of the gradient. -/
theorem rowOf_iblk (c : Dev nD) (t : Fin cfg0.N) (ht : t.val < 192) (R : Fin 256) :
    rowOf (iblk m c 2 t) R.val = Cert.Spec.row (aX m c) (256 * (t.val / 4) + R.val) := by
  funext k
  refine (iblk2_at m c t ht (Fin.ofNat 256 R.val) (Fin.ofNat 1024 k)).trans ?_
  refine congrArg (fun r => aX m c (ix2 r (Fin.ofNat 1024 k))) (Fin.ext ?_)
  show 256 * (t.val / 4) + R.val % 256 = (256 * (t.val / 4) + R.val) % 12288
  omega

/-- A row of the random words' block is a row of the random words. -/
theorem wordsOf_iblk (c : Dev nD) (t : Fin cfg0.N) (ht : t.val < 192) (R : Fin 256) :
    wordsOf (iblk m c 3 t) R.val = Cert.Spec.words (aB m c) (256 * (t.val / 4) + R.val) := by
  funext k
  refine (iblk3_at m c t ht (Fin.ofNat 256 R.val) (Fin.ofNat 1024 k)).trans ?_
  refine congrArg (fun r => aB m c (ix2 r (Fin.ofNat 1024 k))) (Fin.ext ?_)
  show 256 * (t.val / 4) + R.val % 256 = (256 * (t.val / 4) + R.val) % 12288
  omega

/-- The scales block of a point. -/
theorem scalesAt_at (c : Dev nD) (t : Fin cfg0.N) (ht : t.val < 192) (R : Fin 256) (J : Fin 64) :
    scalesAt m c t (ix2 R J) = Cert.Spec.scales (aX m c) (aG m c) (ix2 ⟨256 * (t.val / 4) + R.val, by omega⟩ J) := by
  unfold scalesAt
  rw [scalesB_row _ _ _ (iblk0_at m c t), rowOf_iblk m c t ht]
  rfl

/-- The codes block of a point. -/
theorem codesAt_at (c : Dev nD) (t : Fin cfg0.N) (ht : t.val < 192) (R : Fin 256) (J : Fin 512) :
    codesAt m c t (ix2 R J) = Cert.Spec.codes (aX m c) (aB m c) (aG m c) (ix2 ⟨256 * (t.val / 4) + R.val, by omega⟩ J) := by
  unfold codesAt
  rw [codesB_row _ _ _ (iblk0_at m c t), rowOf_iblk m c t ht, wordsOf_iblk m c t ht]
  rfl

/-- The result block of a point. -/
theorem outAt_at (c : Dev nD) (t : Fin cfg0.N) (ht : t.val < 192) (R : Fin 256) (J : Fin 4096) :
    outAt m c t (ix2 R J) = Cert.Spec.dx (aX m c) (aY m c) (aB m c) (aW m c) (aG m c) (aS' m c)
      (ix2 ⟨256 * (t.val / 4) + R.val, by omega⟩ ⟨4096 * (t.val % 4) + J.val, by omega⟩) := by
  unfold outAt dyvAt
  rw [outB_at, iblk4_at m c t ht]
  have e : (grid0.coords t 1).val = t.val % 4 := (idx t).2.2.2.2.2.2.2.2.2
  have e1 : (iblk m c 1 t : Vec Ideal S8x128 .f32) (mk2 0 0) = aS' m c := iblk1_at m c t _ _
  rw [e1]
  refine congrArg (fun z : EReal => z * aS' m c + aY m c _) (Finset.sum_congr rfl fun k _ => ?_)
  rw [dyvB_row _ _ _ (iblk0_at m c t), rowOf_iblk m c t ht, wordsOf_iblk m c t ht]
  refine congrArg (fun z : EReal => _ * z) ((iblk5_at m c t _ _).trans (congrArg (aW m c) (funext fun d => ?_)))
  match d with
  | 0 => exact Fin.ext (Nat.mod_eq_of_lt k.isLt)
  | 1 =>
    refine Fin.ext ?_
    show (4096 * (grid0.coords t 1).val + J.val) % 16384 = 4096 * (t.val % 4) + J.val
    rw [e]; omega

/-- The result array. -/
theorem final6 (c : Dev nD) : (dats m 0 c).arrAt 6 (cfgs 0).N
    = Cert.Spec.dx (aX m c) (aY m c) (aB m c) (aW m c) (aG m c) (aS' m c) := by
  refine (dats m 0 c).arrAt_eq_of_covers 6 _ (by decide +kernel) fun t hf y => ?_
  have ht : t.val < 192 := Nat.lt_of_lt_of_eq t.isLt N_0
  blk_simp
  rw [after0_6]
  refine (congrArg (outAt m c t) ?_).trans ((outAt_at m c t ht (y 0) (y 1)).trans (congrArg _ ?_))
  · blk_ext
  · blk_ext [idx t]

/-- The codes array. -/
theorem final7 (c : Dev nD) : (dats m 0 c).arrAt 7 (cfgs 0).N = Cert.Spec.codes (aX m c) (aB m c) (aG m c) := by
  refine (dats m 0 c).arrAt_eq_of_covers 7 _ (by decide +kernel) fun t hf y => ?_
  have ht : t.val < 192 := Nat.lt_of_lt_of_eq t.isLt N_0
  blk_simp
  rw [after0_7]
  refine (congrArg (codesAt m c t) ?_).trans ((codesAt_at m c t ht (y 0) (y 1)).trans (congrArg _ ?_))
  · blk_ext
  · blk_ext [idx t]

/-- The scales array. -/
theorem final8 (c : Dev nD) : (dats m 0 c).arrAt 8 (cfgs 0).N = Cert.Spec.scales (aX m c) (aG m c) := by
  refine (dats m 0 c).arrAt_eq_of_covers 8 _ (by decide +kernel) fun t hf y => ?_
  have ht : t.val < 192 := Nat.lt_of_lt_of_eq t.isLt N_0
  blk_simp
  rw [after0_8]
  refine (congrArg (scalesAt m c t) ?_).trans ((scalesAt_at m c t ht (y 0) (y 1)).trans (congrArg _ ?_))
  · blk_ext
  · blk_ext [idx t]

/-- What the kernel leaves: the three results, and the argument arrays unchanged. -/
theorem value (ρ : Dev nD → PrngReg) : θ_run defs (onTc (τ := τ) (main (F := Ideal))) ⟨m, fun _ => 0, ρ⟩ (fun r => ∀ c : Dev nD,
      r.2.mem ((c.tc : Thread nD τ).loc main_v2_0) = Cert.Spec.dx (aX m c) (aY m c) (aB m c) (aW m c) (aG m c) (aS' m c)
      ∧ r.2.mem ((c.tc : Thread nD τ).loc main_v2_1) = Cert.Spec.codes (aX m c) (aB m c) (aG m c)
      ∧ r.2.mem ((c.tc : Thread nD τ).loc main_v2_2) = Cert.Spec.scales (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  exact ⟨(((dats m 0 c).toRForget_arrAt_iff (fgt := forgets0) (w := 6) rfl _ _).mp ((h.1 c).1 6)).trans (final6 m c),
    (((dats m 0 c).toRForget_arrAt_iff (fgt := forgets0) (w := 7) rfl _ _).mp ((h.1 c).1 7)).trans (final7 m c),
    (((dats m 0 c).toRForget_arrAt_iff (fgt := forgets0) (w := 8) rfl _ _).mp ((h.1 c).1 8)).trans (final8 m c), h.2 c⟩

end Cert.KernelIdeal.Hand
end
-- ==== Proof.RefQuant.lean ====
module

public import proofs.«01_k».proof.Proof.Gen.ReferenceIdeal.Frame
public import proofs.«01_k».proof.Proof.Quant
public import Idealize.ShloMosaic.Lib.Pipeline.ValueKit

@[expose] public section
set_option maxRecDepth 16384

/-! The reference's quantiser at the extended reals: every element of its three outputs is the row's quantiser. -/

noncomputable section
namespace Cert.ReferenceIdeal.Hand
open Idealize.ShloMosaic Idealize.ShloMosaic.TcCoe Cert.ReferenceIdeal Cert.ReferenceIdeal.Gen Cert.Quant

variable (x0 : Vec Ideal S12288x64x16 .bf16) (x1 : Vec Ideal S12288x64x16 .i32) (x2 : Vec Ideal S1x1 .f32)
variable {x : ℕ → EReal} {b : ℕ → BitVec 32} {g : EReal} {R : Fin 12288}
  (hx : ∀ (j : Fin 64) (d : Fin 16), x0 (ix3 R j d) = x (16 * j.val + d.val))
  (hb : ∀ (j : Fin 64) (d : Fin 16), x1 (ix3 R j d) = b (16 * j.val + d.val))
  (hg : x2 (ix2 0 0) = g)

include hx hg in
/-- The scale of a block. -/
theorem pay5_row (j : Fin 64) : k0_pay5 x0 x2 (ix2 R j) = scRow x g j.val := by
  pointwise [k0_pay5, k0_pay3, k0_pay4]
  have hbot : Ideal.ofBits .f32 0xFF800000#32 = ⊥ := by simp [Ideal.ofBits, Ideal.ieee]
  simp only [hx, hg, c6, hbot]
  rfl

include hx hg in
/-- The scaled value of an element. -/
theorem pay6_row (j : Fin 64) (d : Fin 16) : k0_pay6 x0 x2 (ix3 R j d) = vRow x g (16 * j.val + d.val) := by
  pointwise [k0_pay6, k0_pay3, k0_pay4]
  rw [pay5_row x0 x2 hx hg, hx, hg]
  have e : (16 * j.val + d.val) / 16 = j.val := by omega
  unfold vRow
  rw [e]
  by_cases h : 0 < scRow x g j.val * g
  · simp only [if_pos h]
  · simp only [if_neg h]

/-- The rounded magnitude, as the body computes it from its blocks. -/
def qPay : FVec Ideal S12288x64x16 .f32 :=
  k0_pay11 (k0_pay7 x0 x2) (k0_pay8 x0 x2) (k0_pay9 x0 x2) (Scalar.ofBits .f32 0x40000000#32) (k0_pay10 (F := Ideal)) x1
/-- The sign, as the body computes it from its blocks. -/
def negPay : IVec S12288x64x16 1 :=
  k0_pay12 (k0_pay6 x0 x2) (k0_pay7 x0 x2) (k0_pay8 x0 x2) (k0_pay9 x0 x2) (Scalar.ofBits .f32 0x40000000#32) (k0_pay10 (F := Ideal)) x1

/-- The saturated magnitude of an element. -/
theorem pay7_at (j : Fin 64) (d : Fin 16) : k0_pay7 x0 x2 (ix3 R j d) = aS (k0_pay6 x0 x2 (ix3 R j d)) := by
  pointwise [k0_pay7]
  rw [c6]; rfl

/-- The rounded magnitude of an element. -/
theorem qPay_at (j : Fin 64) (d : Fin 16) :
    qPay x0 x1 x2 (ix3 R j d) = qS (aS (k0_pay6 x0 x2 (ix3 R j d))) (uS (x1 (ix3 R j d))) := by
  rw [← qR_eq]
  unfold qPay
  pointwise [k0_pay11, k0_pay10, k0_pay8, k0_pay9]
  simp only [pay7_at, c2, c4, chalf, cu]
  rfl

/-- The sign of an element. -/
theorem negPay_at (j : Fin 64) (d : Fin 16) :
    negPay x0 x1 x2 (ix3 R j d)
      = negS (k0_pay6 x0 x2 (ix3 R j d)) (qS (aS (k0_pay6 x0 x2 (ix3 R j d))) (uS (x1 (ix3 R j d)))) := by
  have h : k0_pay11 (k0_pay7 x0 x2) (k0_pay8 x0 x2) (k0_pay9 x0 x2) (Ideal.ofBits .f32 0x40000000#32) (k0_pay10 (F := Ideal)) x1
      (ix3 R j d) = _ := qPay_at x0 x1 x2 j d
  unfold negPay negS
  pointwise [k0_pay12]
  rw [h]

include hx hb hg in
/-- The code of an element. -/
theorem pay1_row (j : Fin 64) (d : Fin 16) :
    k0_pay1 (qPay x0 x1 x2) (negPay x0 x1 x2) (ix3 R j d) = nibRow x b g (16 * j.val + d.val) := by
  unfold nibRow nibS
  rw [← magR_eq, ← pay6_row x0 x2 hx hg j d, ← hb j d, ← negPay_at, ← qPay_at]
  pointwise [k0_pay1]
  simp only [c2, c4, c6, c7]
  rfl

include hx hb hg in
/-- The value of an element. -/
theorem pay2_row (j : Fin 64) (d : Fin 16) :
    k0_pay2 (k0_pay5 x0 x2) (qPay x0 x1 x2) (negPay x0 x1 x2) (ix3 R j d) = valRow x b g (16 * j.val + d.val) := by
  have e : (16 * j.val + d.val) / 16 = j.val := by omega
  unfold valRow valS
  rw [← pay6_row x0 x2 hx hg j d, ← hb j d, ← negPay_at, ← qPay_at, e, ← pay5_row x0 x2 hx hg j]
  pointwise [k0_pay2]

end Cert.ReferenceIdeal.Hand
end
-- ==== Proof.RefValue.lean ====
module

public import proofs.«01_k».proof.Proof.RefQuant
public import proofs.«01_k».proof.Proof.Spec
public import Idealize.ShloMosaic.Lib.Pipeline.ValueKit
public import Idealize.ShloMosaic.Lib.Claim

@[expose] public section
set_option maxRecDepth 16384

/-! The reference's three results after its run, as functions of the argument arrays. -/

noncomputable section
namespace Cert.ReferenceIdeal.Hand
open Idealize.ShloMosaic Idealize.ShloMosaic.TcCoe Idealize.ShloMosaic.Tactic Cert.ReferenceIdeal Cert.ReferenceIdeal.Gen Cert.Quant
open Idealize.SL Idealize.SL.Sem
open Idealize.ShloMosaic.Pipeline (Dat)

variable (m : (ℓ : Loc nD τ sig) → Buf (Elt Ideal) ℓ)

/-- The gradient. -/
abbrev aX (c : Dev nD) : FVec Ideal S12288x1024 .bf16 := m ((c : Thread nD τ).loc main_arg0)
/-- The residual. -/
abbrev aY (c : Dev nD) : FVec Ideal S12288x16384 .bf16 := m ((c : Thread nD τ).loc main_arg1)
/-- The random words. -/
abbrev aB (c : Dev nD) : IVec S12288x1024 32 := m ((c : Thread nD τ).loc main_arg2)
/-- The weights. -/
abbrev aW (c : Dev nD) : FVec Ideal S1024x16384 .bf16 := m ((c : Thread nD τ).loc main_arg3)
/-- The global scale. -/
abbrev aG (c : Dev nD) : EReal := (m ((c : Thread nD τ).loc main_arg4) : FVec Ideal S_ .f32) ix0
/-- The product's scale. -/
abbrev aS' (c : Dev nD) : EReal := (m ((c : Thread nD τ).loc main_arg5) : FVec Ideal S_ .f32) ix0

/-- Every window's block is the whole array. -/
theorem idx : ∀ t : Fin cfg0.N, win0_0.index t = ![0, 0, 0] ∧ win0_1.index t = ![0, 0, 0] ∧ win0_2.index t = ![0, 0] :=
  (by decide +kernel : ∀ t : Fin grid0.N, _)

/-- The gradient as the region finds it. -/
theorem V_main_v0 (c : Dev nD) : V m c main_v0 = shapeCast S12288x64x16 (aX m c) shapeCasts_S12288x1024_S12288x64x16 := by
  show StableHlo.after hostOps0 _ _ = _
  after_results_simp
  rfl
/-- The random words as the region finds them. -/
theorem V_main_v1 (c : Dev nD) : V m c main_v1 = shapeCast S12288x64x16 (aB m c) shapeCasts_S12288x1024_S12288x64x16 := by
  show StableHlo.after hostOps0 _ _ = _
  after_results_simp
  rfl
/-- The global scale as the region finds it. -/
theorem V_main_v2 (c : Dev nD) : V m c main_v2
    = broadcastInDim S1x1 ![] bcast_S_S1x1 (m ((c : Thread nD τ).loc main_arg4) : FVec Ideal S_ .f32) := by
  show StableHlo.after hostOps0 _ _ = _
  after_results_simp

/-- The gradient's block is the array. -/
theorem iblk0_eq (c : Dev nD) : (iblk m c 0 t0_0 : Vec Ideal S12288x64x16 .bf16) = V m c main_v0 := by
  funext i
  blk_ext [iblk, idx t0_0]
/-- The random words' block is the array. -/
theorem iblk1_eq (c : Dev nD) : (iblk m c 1 t0_0 : Vec Ideal S12288x64x16 .i32) = V m c main_v1 := by
  funext i
  blk_ext [iblk, idx t0_0]
/-- The global scale's block is the array. -/
theorem iblk2_eq (c : Dev nD) : (iblk m c 2 t0_0 : Vec Ideal S1x1 .f32) = V m c main_v2 := by
  funext i
  blk_ext [iblk, idx t0_0]

/-- An element of the gradient's block. -/
theorem iblk0_at (c : Dev nD) (R : Fin 12288) (j : Fin 64) (d : Fin 16) :
    (iblk m c 0 t0_0 : Vec Ideal S12288x64x16 .bf16) (ix3 R j d) = Cert.Spec.row (aX m c) R.val (16 * j.val + d.val) := by
  unfold Cert.Spec.row
  rw [iblk0_eq, V_main_v0]
  pointwise
  refine congrArg (aX m c) (funext fun d' => Fin.ext ?_)
  match d' with
  | 0 => exact (Nat.mod_eq_of_lt R.isLt).symm
  | 1 => show j.val * 16 + d.val = (16 * j.val + d.val) % 1024; omega

/-- An element of the random words' block. -/
theorem iblk1_at (c : Dev nD) (R : Fin 12288) (j : Fin 64) (d : Fin 16) :
    (iblk m c 1 t0_0 : Vec Ideal S12288x64x16 .i32) (ix3 R j d) = Cert.Spec.words (aB m c) R.val (16 * j.val + d.val) := by
  unfold Cert.Spec.words
  rw [iblk1_eq, V_main_v1]
  pointwise
  refine congrArg (aB m c) (funext fun d' => Fin.ext ?_)
  match d' with
  | 0 => exact (Nat.mod_eq_of_lt R.isLt).symm
  | 1 => show j.val * 16 + d.val = (16 * j.val + d.val) % 1024; omega

/-- The global scale's block. -/
theorem iblk2_at (c : Dev nD) : (iblk m c 2 t0_0 : Vec Ideal S1x1 .f32) (ix2 0 0) = aG m c := by
  rw [iblk2_eq, V_main_v2]
  pointwise

/-- The decoded values. -/
def vals (c : Dev nD) : FVec Ideal S12288x64x16 .bf16 := fun i =>
  valRow (Cert.Spec.row (aX m c) (i 0).val) (Cert.Spec.words (aB m c) (i 0).val) (aG m c) (16 * (i 1).val + (i 2).val)
/-- The codes, one to an element. -/
def nibs (c : Dev nD) : IVec S12288x64x16 32 := fun i =>
  nibRow (Cert.Spec.row (aX m c) (i 0).val) (Cert.Spec.words (aB m c) (i 0).val) (aG m c) (16 * (i 1).val + (i 2).val)

/-- What the body leaves, over the quantiser's values named apart. -/
theorem pay17_eq (x0 : Vec Ideal S12288x64x16 .bf16) (x1 : Vec Ideal S12288x64x16 .i32) (x2 : Vec Ideal S1x1 .f32) :
    k0_pay17 x0 x1 x2 = qPay x0 x1 x2 ∧ k0_pay18 x0 x1 x2 = negPay x0 x1 x2 := by
  have z3 : (![0, 0, 0] : Fin 3 → ℕ) = fun _ => 0 := by decide
  have z2 : (![0, 0] : Fin 2 → ℕ) = fun _ => 0 := by decide
  have e0 : View.ld x0 r0_0 = x0 := View.ld_unit_zero (Val := Elt Ideal) z3 _ x0
  have e1 : View.ld x1 r0_0 = x1 := View.ld_unit_zero (Val := Elt Ideal) z3 _ x1
  have e2 : View.ld x2 r0_1 = x2 := View.ld_unit_zero (Val := Elt Ideal) z2 _ x2
  unfold k0_pay18 k0_pay17 k0_pay16 k0_pay15 k0_pay14 k0_pay13 qPay negPay
  rw [e0, e1, e2]
  exact ⟨rfl, rfl⟩

/-- The values the body stores. -/
theorem vals_at (c : Dev nD) (i : S12288x64x16.Idx) :
    k0_pay2 (k0_pay5 (iblk m c 0 t0_0) (iblk m c 2 t0_0)) (qPay (iblk m c 0 t0_0) (iblk m c 1 t0_0) (iblk m c 2 t0_0))
      (negPay (iblk m c 0 t0_0) (iblk m c 1 t0_0) (iblk m c 2 t0_0)) i = vals m c i := by
  idx_vars i
  exact pay2_row _ _ _ (iblk0_at m c _) (iblk1_at m c _) (iblk2_at m c) _ _
/-- The codes the body stores. -/
theorem nibs_at (c : Dev nD) (i : S12288x64x16.Idx) :
    k0_pay1 (qPay (iblk m c 0 t0_0) (iblk m c 1 t0_0) (iblk m c 2 t0_0))
      (negPay (iblk m c 0 t0_0) (iblk m c 1 t0_0) (iblk m c 2 t0_0)) i = nibs m c i := by
  idx_vars i
  exact pay1_row _ _ _ (iblk0_at m c _) (iblk1_at m c _) (iblk2_at m c) _ _
/-- The scales the body stores. -/
theorem scales_at (c : Dev nD) (i : S12288x64.Idx) :
    k0_pay5 (iblk m c 0 t0_0) (iblk m c 2 t0_0) i = Cert.Spec.scales (aX m c) (aG m c) i := by
  idx_vars i
  exact pay5_row _ _ (iblk0_at m c _) (iblk2_at m c) _

/-- The values array after the region. -/
theorem final3 (c : Dev nD) : (dats m 0 c).arrAt 3 (cfgs 0).N = vals m c := by
  refine (dats m 0 c).arrAt_eq_of_after_last 3 t0_0 (by decide +kernel) _ fun j => ?_
  blk_simp
  rw [after0_3]
  frame_out
  rw [(pay17_eq _ _ _).1, (pay17_eq _ _ _).2]
  exact vals_at m c j

/-- The codes array after the region. -/
theorem final4 (c : Dev nD) : (dats m 0 c).arrAt 4 (cfgs 0).N = nibs m c := by
  refine (dats m 0 c).arrAt_eq_of_after_last 4 t0_0 (by decide +kernel) _ fun j => ?_
  blk_simp
  rw [after0_4]
  frame_out
  rw [(pay17_eq _ _ _).1, (pay17_eq _ _ _).2]
  exact nibs_at m c j

/-- The scales array after the region. -/
theorem final5 (c : Dev nD) : (dats m 0 c).arrAt 5 (cfgs 0).N = Cert.Spec.scales (aX m c) (aG m c) := by
  refine (dats m 0 c).arrAt_eq_of_after_last 5 t0_0 (by decide +kernel) _ fun j => ?_
  blk_simp
  rw [after0_5]
  frame_out
  exact scales_at m c j

end Cert.ReferenceIdeal.Hand
end
-- ==== Proof.RefResults.lean ====
module

public import proofs.«01_k».proof.Proof.RefValue
public import Idealize.ShloMosaic.Lib.Pipeline.ValueKit
public import Idealize.ShloMosaic.Lib.Claim
public import Idealize.ShloMosaic.Lib.StableHlo.RunHlo

@[expose] public section
set_option maxRecDepth 16384
/-! The reference's results after the operations that follow its quantiser, and its value theorem. -/

noncomputable section
namespace Cert.ReferenceIdeal.Hand
open Idealize.ShloMosaic Idealize.ShloMosaic.TcCoe Idealize.ShloMosaic.Tactic Cert.ReferenceIdeal Cert.ReferenceIdeal.Gen Cert.Quant
open Idealize.SL Idealize.SL.Sem
open Idealize.ShloMosaic.Pipeline (Dat)

variable (m : (ℓ : Loc nD τ sig) → Buf (Elt Ideal) ℓ)
variable (m : (ℓ : Loc nD τ sig) → Buf (Elt Ideal) ℓ)

/-- The reference's first result as the host operations compute it from the values, the weights, the scalar and the residual. -/
def hostDx (v : FVec Ideal S12288x64x16 .bf16) (w : FVec Ideal S1024x16384 .bf16) (s : FVec Ideal S_ .f32)
    (y : FVec Ideal S12288x16384 .bf16) : FVec Ideal S12288x16384 .bf16 :=
  truncf FTy.bf16 (addf (mulf (Host.dotGeneral dot_S12288x1024_S1024x16384_S12288x16384_1_0_0_1_n_n none
      (shapeCast S12288x1024 v shapeCasts_S12288x64x16_S12288x1024) w)
    (broadcastInDim S12288x16384 ![] bcast_S_S12288x16384 s)) (extf FTy.f32 y bitsLt_bf16_f32)) bitsLt_bf16_f32

/-- The reference's second result as the host operations compute it from the codes. -/
def hostCodes (q : IVec S12288x64x16 32) : IVec S12288x512 8 :=
  trunci 8 (ori
      (shapeCast S12288x512 (extractStridedSlice S12288x512x1 ![0, 0, 0]
        (shapeCast S12288x512x2 q shapeCasts_S12288x64x16_S12288x512x2) slices_S12288x512x2_S12288x512x1_0_0_0)
        shapeCasts_S12288x512x1_S12288x512)
      (Host.shli (shapeCast S12288x512 (extractStridedSlice S12288x512x1 ![0, 0, 1]
        (shapeCast S12288x512x2 q shapeCasts_S12288x64x16_S12288x512x2) slices_S12288x512x2_S12288x512x1_0_0_1)
        shapeCasts_S12288x512x1_S12288x512)
        (broadcastInDim S12288x512 ![] bcast_S_S12288x512 (constantI S_ 32 4#32)))) natLt_8_32

/-- An entry of the first result, given the values' row. -/
theorem hostDx_at (v : FVec Ideal S12288x64x16 .bf16) (w : FVec Ideal S1024x16384 .bf16) (s : FVec Ideal S_ .f32)
    (y : FVec Ideal S12288x16384 .bf16) (R : Fin 12288) (C : Fin 16384) (f : ℕ → EReal)
    (hv : ∀ (j : Fin 64) (d : Fin 16), v (ix3 R j d) = f (16 * j.val + d.val)) :
    hostDx v w s y (ix2 R C) = ((∑ k : Fin 1024, f k.val * w (ix2 k C)) * s ix0 + y (ix2 R C) : EReal) := by
  pointwise [hostDx]
  refine congrArg (fun z : EReal => z * s ix0 + y (ix2 R C)) (Finset.sum_congr rfl fun k _ => ?_)
  exact congrArg (fun z : EReal => z * w (ix2 k C)) ((hv _ _).trans (congrArg f (Nat.div_add_mod k.val 16)))

/-- An entry of the second result, given the codes' row. -/
theorem hostCodes_at (q : IVec S12288x64x16 32) (R : Fin 12288) (J : Fin 512) (f : ℕ → BitVec 32)
    (hv : ∀ (j : Fin 64) (d : Fin 16), q (ix3 R j d) = f (16 * j.val + d.val)) :
    hostCodes q (ix2 R J) = (f (2 * J.val) ||| f (2 * J.val + 1) <<< 4).setWidth 8 := by
  have sh : ∀ z : BitVec 32, IntOp.shli ArithUnit.host z 4#32 = z <<< 4 := fun z => rfl
  pointwise [hostCodes]
  rw [hv, hv, sh]
  have e0 : 16 * (J.val / 8) + J.val % 8 * 2 = 2 * J.val := by omega
  have e1 : 16 * (J.val / 8) + (J.val % 8 * 2 + 1) = 2 * J.val + 1 := by omega
  show (f (16 * (J.val / 8) + J.val % 8 * 2) ||| f (16 * (J.val / 8) + (J.val % 8 * 2 + 1)) <<< 4).setWidth 8 = _
  rw [e0, e1]

/-- The operations after the region compute the first result from what the region leaves. -/
theorem tail_dx (Z : Valuation τ sig (Elt Ideal)) : StableHlo.after hostOps1 Z (Proc.devRef .tc main_v19)
    = hostDx (Z (Proc.devRef .tc main_v3_0)) (Z (Proc.devRef .tc main_arg3)) (Z (Proc.devRef .tc main_arg5)) (Z (Proc.devRef .tc main_arg1)) := by
  after_results_simp
  rfl
/-- The operations after the region compute the second result from what the region leaves. -/
theorem tail_codes (Z : Valuation τ sig (Elt Ideal)) : StableHlo.after hostOps1 Z (Proc.devRef .tc main_v12)
    = hostCodes (Z (Proc.devRef .tc main_v3_1)) := by
  after_results_simp
  rfl
/-- What the region leaves, read by the operations after it. -/
abbrev left (c : Dev nD) : Valuation τ sig (Elt Ideal) :=
  Pipeline.withArrays spec0 c (V0 m c) (fun w => (dats m 0 c).arrAt w (cfgs 0).N)
/-- The windows have different arrays. -/
theorem hinj : Function.Injective (Pipeline.arrRef spec0) := by decide +kernel
/-- The values array, as the region leaves it. -/
theorem left3 (c : Dev nD) : left m c (Proc.devRef .tc main_v3_0) = vals m c :=
  (Pipeline.withArrays_arr spec0 hinj c (V0 m c) (fun w => (dats m 0 c).arrAt w (cfgs 0).N) 3).trans (final3 m c)
/-- The codes array, as the region leaves it. -/
theorem left4 (c : Dev nD) : left m c (Proc.devRef .tc main_v3_1) = nibs m c :=
  (Pipeline.withArrays_arr spec0 hinj c (V0 m c) (fun w => (dats m 0 c).arrAt w (cfgs 0).N) 4).trans (final4 m c)
/-- The region leaves the residual alone. -/
theorem left_arg1 (c : Dev nD) : left m c (Proc.devRef .tc main_arg1) = aY m c :=
  (Pipeline.withArrays_of_ne _ c (V0 m c) _ main_arg1 (by exact (by decide : ∀ w, Pipeline.arrRef spec0 w ≠ main_arg1))).trans (V_main_arg1 m c)
/-- The region leaves the weights alone. -/
theorem left_arg3 (c : Dev nD) : left m c (Proc.devRef .tc main_arg3) = aW m c :=
  (Pipeline.withArrays_of_ne _ c (V0 m c) _ main_arg3 (by exact (by decide : ∀ w, Pipeline.arrRef spec0 w ≠ main_arg3))).trans (V_main_arg3 m c)
/-- The region leaves the scalar alone. -/
theorem left_arg5 (c : Dev nD) : left m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

/-- The first result. -/
theorem res_dx (c : Dev nD) : Pipeline.afterTail₀ cfgs (dats m) 0 (V0 m) [hostOps1] c main_v19
    = Cert.Spec.dx (aX m c) (aY m c) (aB m c) (aW m c) (aG m c) (aS' m c) := by
  refine (tail_dx (left m c)).trans ?_
  rw [left3, left_arg1, left_arg3, left_arg5]
  funext i
  idx_vars i
  exact hostDx_at _ _ _ _ _ _ _ (fun _ _ => rfl)
/-- The second result. -/
theorem res_codes (c : Dev nD) : Pipeline.afterTail₀ cfgs (dats m) 0 (V0 m) [hostOps1] c main_v12
    = Cert.Spec.codes (aX m c) (aB m c) (aG m c) := by
  refine (tail_codes (left m c)).trans ?_
  rw [left4]
  funext i
  idx_vars i
  exact hostCodes_at _ _ _ _ (fun _ _ => rfl)

/-- What the reference leaves: the three results, and the argument arrays unchanged. -/
theorem value (ρ : Dev nD → PrngReg) : θ_run defs (onTc (τ := τ) (main (F := Ideal))) ⟨m, fun _ => 0, ρ⟩ (fun r => ∀ c : Dev nD,
      r.2.mem ((c.tc : Thread nD τ).loc main_v19) = Cert.Spec.dx (aX m c) (aY m c) (aB m c) (aW m c) (aG m c) (aS' m c)
      ∧ r.2.mem ((c.tc : Thread nD τ).loc main_v12) = Cert.Spec.codes (aX m c) (aB m c) (aG m c)
      ∧ r.2.mem ((c.tc : Thread nD τ).loc main_v3_2) = Cert.Spec.scales (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_main m ρ
  · exact res_dx m c
  · exact res_codes m c
  · exact final5 m c
  · exact W_main_arg0 m (dats m) c
  · exact W_main_arg1 m (dats m) c
  · exact W_main_arg2 m (dats m) c
  · exact W_main_arg3 m (dats m) c
  · exact W_main_arg4 m (dats m) c
  · exact W_main_arg5 m (dats m) c

end Cert.ReferenceIdeal.Hand
end
-- ==== Proof.Same.lean ====
module

public import proofs.«01_k».proof.Defs
public import proofs.«01_k».proof.Proof.Gen.Kernel
public import proofs.«01_k».proof.Proof.Region

@[expose] public section

/-! The frame of the machine's program. Its text is the text of the program read at the extended
reals, whose frame is proved at every reading of the floats, so the one is the other's. -/
set_option maxRecDepth 16384

namespace Cert.Proof
open Idealize.ShloMosaic

/-- The two kernel bodies are one. -/
theorem bodyEq : @Cert.Kernel.cc0_dgrad Bits _ _ = @Cert.KernelIdeal.cc0_dgrad Bits _ _ := rfl
/-- The two main functions are one. -/
theorem mainEq : (Cert.Kernel.main (F := Bits)) = (Cert.KernelIdeal.main (F := Bits)) := rfl
/-- The two body tables are one. -/
theorem defs0Eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun bodyEq _) _) _) _) _) _) _) _) _) _) _) _) _) _) _) _) _) _) _) _) _) _) _) _) _) _) _
/-- The same with the pipeline's own bodies. -/
theorem defsEq : Cert.Kernel.defs (F := Bits) = Cert.KernelIdeal.defs (F := Bits) := by
  unfold Cert.Kernel.defs Cert.KernelIdeal.defs
  exact congrArg (Pipeline.defs Cert.KernelIdeal.pcfgs) defs0Eq

/-- The frame of the machine's program. -/
theorem kernelFrame : Cert.quiescent_Kernel := by
  intro m ρ _
  have h := Cert.KernelIdeal.Hand.frame (F := Bits) m ρ
  rw [← mainEq, ← defsEq] at h
  exact h

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Frame
public import proofs.«01_k».proof.Proof.Gen.Amax.Frame
public import proofs.«01_k».proof.Proof.Gen.AmaxIdeal.Value
public import proofs.«01_k».proof.Proof.Gen.AmaxReferenceIdeal.Run
public import proofs.«01_k».proof.Proof.AmaxValue
public import proofs.«01_k».proof.Proof.AmaxRef
public import proofs.«01_k».proof.Proof.Gen.Wdec.Frame
public import proofs.«01_k».proof.Proof.Gen.WdecIdeal.Value
public import proofs.«01_k».proof.Proof.Gen.WdecReferenceIdeal.Frame
public import proofs.«01_k».proof.Proof.WdecValue
public import proofs.«01_k».proof.Proof.WdecRef
public import proofs.«01_k».proof.Proof.Region
public import proofs.«01_k».proof.Proof.Value
public import proofs.«01_k».proof.Proof.RefResults
public import proofs.«01_k».proof.Proof.Same

@[expose] public section
set_option maxRecDepth 16384
open Idealize.ShloMosaic Idealize.ShloMosaic.TcCoe Idealize.SL Idealize.SL.Sem

/-! The claims, assembled. -/

/-- Over the real numbers the kernel and the reference, run from the same arguments, end with equal results. -/
theorem Cert.Proof.equal [Cert.KernelIdeal.Facts] [Cert.ReferenceIdeal.Facts] : Cert.algebraic_KernelIdeal_ReferenceIdeal := by
  intro m g m' g' _ hagree
  refine ⟨_, _, _, Cert.KernelIdeal.Hand.value m g,
    (θ_run _ _ _).mono (fun r h c => ?_) (Cert.ReferenceIdeal.Hand.value m' g')⟩
  obtain ⟨e0, e1, e2, e3, e4, e5⟩ := hagree c
  obtain ⟨h0, h1, h2, hr⟩ := h c
  refine ⟨h0.trans ?_, h1.trans ?_, h2.trans ?_, hr⟩
  · unfold Cert.ReferenceIdeal.Hand.aX Cert.ReferenceIdeal.Hand.aY Cert.ReferenceIdeal.Hand.aB Cert.ReferenceIdeal.Hand.aW
      Cert.ReferenceIdeal.Hand.aG Cert.ReferenceIdeal.Hand.aS'
    rw [e0, e1, e2, e3, e4, e5]
  · unfold Cert.ReferenceIdeal.Hand.aX Cert.ReferenceIdeal.Hand.aB Cert.ReferenceIdeal.Hand.aG
    rw [e0, e2, e4]
  · unfold Cert.ReferenceIdeal.Hand.aX Cert.ReferenceIdeal.Hand.aG
    rw [e0, e4]

/-- Over the real numbers the kernel of the global scale and its reference, run from the same arguments, end with equal results. -/
theorem Cert.Proof.amaxEqual [Cert.AmaxIdeal.Facts] [Cert.AmaxReferenceIdeal.Facts] : Cert.algebraic_AmaxIdeal_AmaxReferenceIdeal := by
  intro m g m' g' _ hagree
  refine ⟨_, _, Cert.AmaxIdeal.Hand.value m g,
    (θ_run _ _ _).mono (fun r h c => ?_) (Cert.AmaxReferenceIdeal.Hand.value m' g')⟩
  obtain ⟨e0, e1⟩ := hagree c
  obtain ⟨h0, h1, hr⟩ := h c
  refine ⟨h0.trans ?_, h1.trans ?_, hr⟩
  · unfold Cert.AmaxReferenceIdeal.Hand.aX
    rw [e0]
  · unfold Cert.AmaxReferenceIdeal.Hand.aX Cert.AmaxReferenceIdeal.Hand.aWg
    rw [e0, e1]

/-- Over the real numbers the kernel of the decoded weights and its reference, run from the same arguments, end with equal results. -/
theorem Cert.Proof.wdecEqual [Cert.WdecIdeal.Facts] [Cert.WdecReferenceIdeal.Facts] : Cert.algebraic_WdecIdeal_WdecReferenceIdeal := by
  intro m g m' g' _ hagree
  refine ⟨_, Cert.WdecIdeal.Hand.value m g,
    (θ_run _ _ _).mono (fun r h c => ?_) (Cert.WdecReferenceIdeal.Hand.value m' g')⟩
  obtain ⟨e0, e1⟩ := hagree c
  obtain ⟨h0, hr⟩ := h c
  refine ⟨h0.trans ?_, hr⟩
  unfold Cert.WdecReferenceIdeal.Hand.aW Cert.WdecReferenceIdeal.Hand.aSc
  rw [e0, e1]

/-- The reference of the global scale ends with its arguments unchanged and, having no semaphore, with every counter at zero. -/
theorem Cert.Proof.amaxReferenceFrame [Cert.AmaxReferenceIdeal.Facts] : Cert.quiescent_AmaxReferenceIdeal := by
  intro m ρ _
  refine (θ_run _ _ _).mono (fun r h => ⟨fun c => (h c).2.2, ?_⟩) (Cert.AmaxReferenceIdeal.Value.run m ρ)
  funext x
  rcases x with ⟨_, s | s⟩ <;> exact s.elim0

/-- Every claim of the certificate. -/
theorem Cert.Proof.claim : Cert.Claim :=
  ⟨Cert.Kernel.Gen.facts, Cert.KernelIdeal.Gen.facts, Cert.ReferenceIdeal.Gen.facts,
    Cert.Amax.Gen.facts, Cert.AmaxIdeal.Gen.facts, Cert.AmaxReferenceIdeal.Gen.facts,
    Cert.Wdec.Gen.facts, Cert.WdecIdeal.Gen.facts, Cert.WdecReferenceIdeal.Gen.facts,
    Cert.Proof.kernelFrame, fun m ρ _ => Cert.KernelIdeal.Hand.frame m ρ,
    fun m ρ _ => Cert.ReferenceIdeal.Gen.frame m ρ,
    fun m ρ _ => Cert.Amax.Gen.frame m ρ, fun m ρ _ => Cert.AmaxIdeal.Gen.frame m ρ, Cert.Proof.amaxReferenceFrame,
    fun m ρ _ => Cert.Wdec.Gen.frame m ρ, fun m ρ _ => Cert.WdecIdeal.Gen.frame m ρ, fun m ρ _ => Cert.WdecReferenceIdeal.Gen.frame m ρ,
    trivial, Cert.Proof.equal, trivial, Cert.Proof.amaxEqual,
    trivial, Cert.Proof.wdecEqual⟩

end
